-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_inf [hPre_no_inf : Cert.Pre_no_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_inf [hPre_no_inf : Cert.Pre_no_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_inf [hKernelIdeal : Cert.KernelIdeal.Facts] [hPre_no_inf : Cert.Pre_no_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_inf [hReferenceIdeal : Cert.ReferenceIdeal.Facts] [hPre_no_inf : Cert.Pre_no_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_inf [hKernelIdeal : Cert.KernelIdeal.Facts] [hReferenceIdeal : Cert.ReferenceIdeal.Facts] [hPre_no_inf : Cert.Pre_no_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_inf : Cert.Pre_no_inf.Facts),
    quiescent_Kernel (hKernel := hKernel)
    ∧ quiescent_KernelIdeal (hKernelIdeal := hKernelIdeal)
    ∧ quiescent_KernelIdeal_pre_no_inf (hKernelIdeal := hKernelIdeal) (hPre_no_inf := hPre_no_inf)
    ∧ quiescent_ReferenceIdeal (hReferenceIdeal := hReferenceIdeal)
    ∧ quiescent_ReferenceIdeal_pre_no_inf (hReferenceIdeal := hReferenceIdeal) (hPre_no_inf := hPre_no_inf)
    ∧ preserves_Kernel_KernelIdeal
    ∧ algebraic_KernelIdeal_ReferenceIdeal_pre_no_inf (hKernelIdeal := hKernelIdeal) (hReferenceIdeal := hReferenceIdeal) (hPre_no_inf := hPre_no_inf)
-- ==== Pre_no_inf.lean ====
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768 .f32) : IVec S32768 1 :=
  let main_cst : FVec F S_ .f32 := constant S_ .f32 0x7F800000#32
  let main_v0 : FVec F S32768 .f32 := broadcastInDim S32768 ![] bcast_S_S32768 main_cst
  let main_v1 : IVec S32768 1 := cmpf .olt main_arg0 main_v0
  main_v1
-- ==== Kernel.lean ====
abbrev S32768 : Shape := ⟨1, ![32768]⟩
abbrev S256x128 : Shape := ⟨2, ![256, 128]⟩
abbrev S1x64 : Shape := ⟨2, ![1, 64]⟩
abbrev S64x1 : Shape := ⟨2, ![64, 1]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128x128 : Shape := ⟨2, ![128, 128]⟩
abbrev S124x128 : Shape := ⟨2, ![124, 128]⟩
abbrev S126x128 : Shape := ⟨2, ![126, 128]⟩
abbrev S127x128 : Shape := ⟨2, ![127, 128]⟩
abbrev S60x128 : Shape := ⟨2, ![60, 128]⟩
abbrev S62x128 : Shape := ⟨2, ![62, 128]⟩
abbrev S63x128 : Shape := ⟨2, ![63, 128]⟩
abbrev S64x64 : Shape := ⟨2, ![64, 64]⟩
abbrev S32x64 : Shape := ⟨2, ![32, 64]⟩
abbrev S16x64 : Shape := ⟨2, ![16, 64]⟩
abbrev S8x64 : Shape := ⟨2, ![8, 64]⟩
abbrev S60x64 : Shape := ⟨2, ![60, 64]⟩
abbrev S4x64 : Shape := ⟨2, ![4, 64]⟩
abbrev S62x64 : Shape := ⟨2, ![62, 64]⟩
abbrev S2x64 : Shape := ⟨2, ![2, 64]⟩
abbrev S63x64 : Shape := ⟨2, ![63, 64]⟩
abbrev S64x32 : Shape := ⟨2, ![64, 32]⟩
abbrev S32x32 : Shape := ⟨2, ![32, 32]⟩
abbrev S16x32 : Shape := ⟨2, ![16, 32]⟩
abbrev S8x32 : Shape := ⟨2, ![8, 32]⟩
abbrev S60x32 : Shape := ⟨2, ![60, 32]⟩
abbrev S4x32 : Shape := ⟨2, ![4, 32]⟩
abbrev S62x32 : Shape := ⟨2, ![62, 32]⟩
abbrev S2x32 : Shape := ⟨2, ![2, 32]⟩
abbrev S63x32 : Shape := ⟨2, ![63, 32]⟩
abbrev S1x32 : Shape := ⟨2, ![1, 32]⟩
abbrev S64x16 : Shape := ⟨2, ![64, 16]⟩
abbrev S32x16 : Shape := ⟨2, ![32, 16]⟩
abbrev S16x16 : Shape := ⟨2, ![16, 16]⟩
abbrev S8x16 : Shape := ⟨2, ![8, 16]⟩
abbrev S60x16 : Shape := ⟨2, ![60, 16]⟩
abbrev S4x16 : Shape := ⟨2, ![4, 16]⟩
abbrev S62x16 : Shape := ⟨2, ![62, 16]⟩
abbrev S2x16 : Shape := ⟨2, ![2, 16]⟩
abbrev S63x16 : Shape := ⟨2, ![63, 16]⟩
abbrev S1x16 : Shape := ⟨2, ![1, 16]⟩
abbrev S64x8 : Shape := ⟨2, ![64, 8]⟩
abbrev S32x8 : Shape := ⟨2, ![32, 8]⟩
abbrev S16x8 : Shape := ⟨2, ![16, 8]⟩
abbrev S8x8 : Shape := ⟨2, ![8, 8]⟩
abbrev S60x8 : Shape := ⟨2, ![60, 8]⟩
abbrev S4x8 : Shape := ⟨2, ![4, 8]⟩
abbrev S62x8 : Shape := ⟨2, ![62, 8]⟩
abbrev S2x8 : Shape := ⟨2, ![2, 8]⟩
abbrev S63x8 : Shape := ⟨2, ![63, 8]⟩
abbrev S1x8 : Shape := ⟨2, ![1, 8]⟩
abbrev S64x4 : Shape := ⟨2, ![64, 4]⟩
abbrev S32x4 : Shape := ⟨2, ![32, 4]⟩
abbrev S16x4 : Shape := ⟨2, ![16, 4]⟩
abbrev S8x4 : Shape := ⟨2, ![8, 4]⟩
abbrev S60x4 : Shape := ⟨2, ![60, 4]⟩
abbrev S4x4 : Shape := ⟨2, ![4, 4]⟩
abbrev S62x4 : Shape := ⟨2, ![62, 4]⟩
abbrev S2x4 : Shape := ⟨2, ![2, 4]⟩
abbrev S63x4 : Shape := ⟨2, ![63, 4]⟩
abbrev S1x4 : Shape := ⟨2, ![1, 4]⟩
abbrev S64x2 : Shape := ⟨2, ![64, 2]⟩
abbrev S32x2 : Shape := ⟨2, ![32, 2]⟩
abbrev S16x2 : Shape := ⟨2, ![16, 2]⟩
abbrev S8x2 : Shape := ⟨2, ![8, 2]⟩
abbrev S60x2 : Shape := ⟨2, ![60, 2]⟩
abbrev S4x2 : Shape := ⟨2, ![4, 2]⟩
abbrev S62x2 : Shape := ⟨2, ![62, 2]⟩
abbrev S2x2 : Shape := ⟨2, ![2, 2]⟩
abbrev S63x2 : Shape := ⟨2, ![63, 2]⟩
abbrev S1x2 : Shape := ⟨2, ![1, 2]⟩
abbrev S32x1 : Shape := ⟨2, ![32, 1]⟩
abbrev S16x1 : Shape := ⟨2, ![16, 1]⟩
abbrev S8x1 : Shape := ⟨2, ![8, 1]⟩
abbrev S60x1 : Shape := ⟨2, ![60, 1]⟩
abbrev S4x1 : Shape := ⟨2, ![4, 1]⟩
abbrev S62x1 : Shape := ⟨2, ![62, 1]⟩
abbrev S2x1 : Shape := ⟨2, ![2, 1]⟩
abbrev S63x1 : Shape := ⟨2, ![63, 1]⟩
abbrev S1x1 : Shape := ⟨2, ![1, 1]⟩
abbrev S64 : Shape := ⟨1, ![64]⟩
abbrev S1x1x64 : Shape := ⟨3, ![1, 1, 64]⟩
abbrev S1 : Shape := ⟨1, ![1]⟩
abbrev S1x1x1 : Shape := ⟨3, ![1, 1, 1]⟩
abbrev S128 : Shape := ⟨1, ![128]⟩
abbrev S128x1 : Shape := ⟨2, ![128, 1]⟩

abbrev nBuf : Space → Nat
  | .hbm => 3
  | .vmem => 4
  | .smem => 0
  | _ => 0

abbrev bufTy : (tb : Table) → Fin (tcTables nBuf tb) → BufTy
  | .hbm, ⟨0, _⟩ => ⟨S32768, .f32⟩
  | .hbm, ⟨1, _⟩ => ⟨S256x128, .f32⟩
  | .hbm, ⟨2, _⟩ => ⟨S1x64, .i32⟩
  | .local _ .vmem, ⟨0, _⟩ => ⟨S256x128, .f32⟩
  | .local _ .vmem, ⟨1, _⟩ => ⟨S1x64, .i32⟩
  | .local _ .vmem, ⟨2, _⟩ => ⟨S64x1, .f32⟩
  | .local _ .vmem, ⟨3, _⟩ => ⟨S64x1, .i32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768 : Shape := ⟨1, ![32768]⟩
abbrev S_ : Shape := ⟨0, ![]⟩
abbrev S1 : Shape := ⟨1, ![1]⟩
abbrev S64 : Shape := ⟨1, ![64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S32768, .f32⟩
  | .hbm, ⟨1, _⟩ => ⟨S_, .f32⟩
  | .hbm, ⟨2, _⟩ => ⟨S32768, .f32⟩
  | .hbm, ⟨3, _⟩ => ⟨S32768, .f32⟩
  | .hbm, ⟨4, _⟩ => ⟨S32768, .f32⟩
  | .hbm, ⟨5, _⟩ => ⟨S32768, .f32⟩
  | .hbm, ⟨6, _⟩ => ⟨S_, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S32768, .f32⟩
  | .hbm, ⟨17, _⟩ => ⟨S32768, .f32⟩
  | .hbm, ⟨18, _⟩ => ⟨S_, .f32⟩
  | .hbm, ⟨19, _⟩ => ⟨S32768, .f32⟩
  | .hbm, ⟨20, _⟩ => ⟨S32768, .i1⟩
  | .hbm, ⟨21, _⟩ => ⟨S32768, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S_, .f32⟩
  | .hbm, ⟨40, _⟩ => ⟨S_, .f32⟩
  | .hbm, ⟨41, _⟩ => ⟨S32768, .f32⟩
  | .hbm, ⟨42, _⟩ => ⟨S32768, .f32⟩
  | .hbm, ⟨43, _⟩ => ⟨S64, .f32⟩
  | .hbm, ⟨44, _⟩ => ⟨S64, .i32⟩
  | .hbm, ⟨45, _⟩ => ⟨S1x64, .i32⟩
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call1_call0_cst : Ref sig .tc := ⟨.hbm, 6, rfl⟩
abbrev main_call1_call0_v0 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_v27 : Ref sig .tc := ⟨.hbm, 42, rfl⟩
abbrev main_values : Ref sig .tc := ⟨.hbm, 43, rfl⟩
abbrev main_indices : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.RefRun.lean ====
/- The reference's run, read in four stretches: each stretch leaves its result as a named function of what it was given. -/
module

public import proofs.«01_k».proof.Proof.Gen.ReferenceIdeal
public import Idealize.ShloMosaic.Lib.StableHlo.Run

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The operations of stretch A: from the scores to the sorted values and their running sums. -/
abbrev opsA : List (HloOp τ sig (Elt F)) :=
  [ nullary main_cst (constant S_ .f32 0x3F800000#32),
    unary main_cst main_v0 (broadcastInDim S32768 ![] bcast_S_S32768 : (⟨S_, .f32⟩ : BufTy).Contents (Elt F) → (⟨S32768, .f32⟩ : BufTy).Contents (Elt F)),
    binary main_arg0 main_v0 main_v1 (Host.divf : (⟨S32768, .f32⟩ : BufTy).Contents (Elt F) → (⟨S32768, .f32⟩ : BufTy).Contents (Elt F) → (⟨S32768, .f32⟩ : BufTy).Contents (Elt F)),
    TRef.unary (TRef.of (T := ⟨S32768, .f32⟩) main_v1) (TRef.of (T := ⟨S32768, .f32⟩) main_v2) (fun x => Host.sort S32768 0 comparator_f32_d0 x),
    unary main_v2 main_v3 (Host.reverse [0] : (⟨S32768, .f32⟩ : BufTy).Contents (Elt F) → (⟨S32768, .f32⟩ : BufTy).Contents (Elt F)),
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S32768, .f32⟩) main_v3) (TRef.of (T := ⟨S_, .f32⟩) main_call1_call0_v0) (TRef.of (T := ⟨S32768, .f32⟩) main_v4) (fun x v => Host.reduceWindowAdd ![32768] ![1] ![32767] ![0] x v reduceWindows_S32768_S32768_w32768s1p32767_0 h_S_) ]

/-- The operations of stretch B: the number of entries in the support. -/
abbrev opsB : List (HloOp τ sig (Elt F)) :=
  [ nullary main_v5 (sitofp .f32 (iotaInDim S32768 32 0)),
    nullary main_cst_0 (constant S_ .f32 0x3F800000#32),
    unary main_cst_0 main_v6 (broadcastInDim S32768 ![] bcast_S_S32768 : (⟨S_, .f32⟩ : BufTy).Contents (Elt F) → (⟨S32768, .f32⟩ : BufTy).Contents (Elt F)),
    binary main_v6 main_v5 main_v7 (addf : (⟨S32768, .f32⟩ : BufTy).Contents (Elt F) → (⟨S32768, .f32⟩ : BufTy).Contents (Elt F) → (⟨S32768, .f32⟩ : BufTy).Contents (Elt F)),
    nullary main_cst_1 (constant S_ .f32 0x3F800000#32),
    unary main_cst_1 main_v8 (broadcastInDim S32768 ![] bcast_S_S32768 : (⟨S_, .f32⟩ : BufTy).Contents (Elt F) → (⟨S32768, .f32⟩ : BufTy).Contents (Elt F)),
    binary main_v4 main_v8 main_v9 (subf : (⟨S32768, .f32⟩ : BufTy).Contents (Elt F) → (⟨S32768, .f32⟩ : BufTy).Contents (Elt F) → (⟨S32768, .f32⟩ : BufTy).Contents (Elt F)),
    binary main_v9 main_v7 main_v10 (Host.divf : (⟨S32768, .f32⟩ : BufTy).Contents (Elt F) → (⟨S32768, .f32⟩ : BufTy).Contents (Elt F) → (⟨S32768, .f32⟩ : BufTy).Contents (Elt F)),
    binary main_v3 main_v10 main_v11 (subf : (⟨S32768, .f32⟩ : BufTy).Contents (Elt F) → (⟨S32768, .f32⟩ : BufTy).Contents (Elt F) → (⟨S32768, .f32⟩ : BufTy).Contents (Elt F)),
    nullary main_cst_2 (constant S_ .f32 0x00000000#32),
    unary main_cst_2 main_v12 (broadcastInDim S32768 ![] bcast_S_S32768 : (⟨S_, .f32⟩ : BufTy).Contents (Elt F) → (⟨S32768, .f32⟩ : BufTy).Contents (Elt F)),
    binary main_v11 main_v12 main_v13 (cmpf .ogt : (⟨S32768, .f32⟩ : BufTy).Contents (Elt F) → (⟨S32768, .f32⟩ : BufTy).Contents (Elt F) → (⟨S32768, .i1⟩ : BufTy).Contents (Elt F)),
    unary main_v13 main_v14 ((extui 32 · natLt_1_32) : (⟨S32768, .i1⟩ : BufTy).Contents (Elt F) → (⟨S32768, .i32⟩ : BufTy).Contents (Elt F)),
    nullary main_c (constantI S_ 32 0#32),
    binary main_v14 main_c main_v15 ((fun x v => Host.reduce IntOp.addi x v reducesTo_S32768_S_d0 h_S_) : (⟨S32768, .i32⟩ : BufTy).Contents (Elt F) → (⟨S_, .i32⟩ : BufTy).Contents (Elt F) → (⟨S_, .i32⟩ : BufTy).Contents (Elt F)) ]

/-- The operations of stretch C: the position of the last entry of the support. -/
abbrev opsC : List (HloOp τ sig (Elt F)) :=
  [ nullary main_c_3 (constantI S_ 32 1#32),
    binary main_v15 main_c_3 main_v16 (subi : (⟨S_, .i32⟩ : BufTy).Contents (Elt F) → (⟨S_, .i32⟩ : BufTy).Contents (Elt F) → (⟨S_, .i32⟩ : BufTy).Contents (Elt F)),
    nullary main_c_4 (constantI S_ 32 0#32),
    binary main_v16 main_c_4 main_v17 (cmpi .slt : (⟨S_, .i32⟩ : BufTy).Contents (Elt F) → (⟨S_, .i32⟩ : BufTy).Contents (Elt F) → (⟨S_, .i1⟩ : BufTy).Contents (Elt F)),
    nullary main_c_5 (constantI S_ 32 32768#32),
    binary main_v16 main_c_5 main_v18 (addi : (⟨S_, .i32⟩ : BufTy).Contents (Elt F) → (⟨S_, .i32⟩ : BufTy).Contents (Elt F) → (⟨S_, .i32⟩ : BufTy).Contents (Elt F)),
    ternary main_v17 main_v18 main_v16 main_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operations of stretch E: the running sum read at that position. -/
abbrev opsE : List (HloOp τ sig (Elt F)) :=
  [ unaryIndexed main_v4 ![main_v19] ⟨S_, .i32⟩ main_v20 ((fun x i => Host.dynamicSlice S1 x (fun k => (i k (Shape.Idx.first h_S_)).toInt) sliceFits_S32768_S1) : (⟨S32768, .f32⟩ : BufTy).Contents (Elt F) → (Fin 1 → (⟨S_, .i32⟩ : BufTy).Contents (Elt F)) → (⟨S1, .f32⟩ : BufTy).Contents (Elt F)) ]

/-- The operations of stretch G: the threshold from what was read. -/
abbrev opsG : List (HloOp τ sig (Elt F)) :=
  [ reshape main_v20 main_v21 (rfl : (.f32 : EltTy) = .f32) shapeCasts_S1_S_,
    nullary main_cst_6 (constant S_ .f32 0x3F800000#32),
    binary main_v21 main_cst_6 main_v22 (subf : (⟨S_, .f32⟩ : BufTy).Contents (Elt F) → (⟨S_, .f32⟩ : BufTy).Contents (Elt F) → (⟨S_, .f32⟩ : BufTy).Contents (Elt F)),
    unary main_v15 main_v23 (sitofp .f32 : (⟨S_, .i32⟩ : BufTy).Contents (Elt F) → (⟨S_, .f32⟩ : BufTy).Contents (Elt F)),
    binary main_v22 main_v23 main_v24 (Host.divf : (⟨S_, .f32⟩ : BufTy).Contents (Elt F) → (⟨S_, .f32⟩ : BufTy).Contents (Elt F) → (⟨S_, .f32⟩ : BufTy).Contents (Elt F)) ]

/-- The operations of stretch D: the probabilities and the positions of the 64 largest. -/
abbrev opsD : List (HloOp τ sig (Elt F)) :=
  [ unary main_v24 main_v25 (broadcastInDim S32768 ![] bcast_S_S32768 : (⟨S_, .f32⟩ : BufTy).Contents (Elt F) → (⟨S32768, .f32⟩ : BufTy).Contents (Elt F)),
    binary main_v1 main_v25 main_v26 (subf : (⟨S32768, .f32⟩ : BufTy).Contents (Elt F) → (⟨S32768, .f32⟩ : BufTy).Contents (Elt F) → (⟨S32768, .f32⟩ : BufTy).Contents (Elt F)),
    nullary main_cst_7 (constant S_ .f32 0x00000000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S32768, .f32⟩) main_call2_v1) (broadcastInDim S32768 ![] bcast_S_S32768),
    TRef.binary (TRef.of (T := ⟨S32768, .f32⟩) main_call2_v1) (TRef.of (T := ⟨S32768, .f32⟩) main_v26) (TRef.of (T := ⟨S32768, .f32⟩) main_v27) maximumf,
    unary main_v27 main_values ((fun x => (Host.topK S64 0 (FloatOps.cmpfTotal .gt) x sliceFits_S32768_S64).1) : (⟨S32768, .f32⟩ : BufTy).Contents (Elt F) → (⟨S64, .f32⟩ : BufTy).Contents (Elt F)),
    unary main_v27 main_indices ((fun x => (Host.topK S64 0 (FloatOps.cmpfTotal .gt) x sliceFits_S32768_S64).2) : (⟨S32768, .f32⟩ : BufTy).Contents (Elt F) → (⟨S64, .i32⟩ : BufTy).Contents (Elt F)),
    reshape main_indices main_v28 (rfl : (.i32 : EltTy) = .i32) shapeCasts_S64_S1x64 ]

/-- A line of operations run in two parts. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- All the operations. -/
abbrev ops : List (HloOp τ sig (Elt F)) := opsA ++ (opsB ++ (opsC ++ (opsE ++ (opsG ++ opsD))))

/-- The scores divided by the temperature, which is one. -/
def scaled (x : Vec F S32768 .f32) : Vec F S32768 .f32 :=
  Host.divf x (broadcastInDim S32768 ![] bcast_S_S32768 (constant S_ .f32 0x3F800000#32))

/-- The values in descending order. -/
def sortedDown (z : Vec F S32768 .f32) : Vec F S32768 .f32 :=
  Host.reverse [0] (Host.sort S32768 0 comparator_f32_d0 z)

/-- The running sums. -/
def running (s : Vec F S32768 .f32) : Vec F S32768 .f32 :=
  Host.reduceWindowAdd ![32768] ![1] ![32767] ![0] s (broadcastInDim S_ ![] bcast_S_S_ (constant S_ .f32 0x00000000#32))
    reduceWindows_S32768_S32768_w32768s1p32767_0 h_S_

/-- The size of the support. -/
def support (s cum : Vec F S32768 .f32) : Vec F S_ .i32 :=
  Host.reduce IntOp.addi
    (extui 32 (cmpf .ogt (subf s (Host.divf (subf cum (broadcastInDim S32768 ![] bcast_S_S32768 (constant S_ .f32 0x3F800000#32)))
        (addf (broadcastInDim S32768 ![] bcast_S_S32768 (constant S_ .f32 0x3F800000#32)) (sitofp .f32 (iotaInDim S32768 32 0)))))
      (broadcastInDim S32768 ![] bcast_S_S32768 (constant S_ .f32 0x00000000#32))) natLt_1_32)
    (constantI S_ 32 0#32) reducesTo_S32768_S_d0 h_S_

/-- The position read for the threshold: one below the support's size, counted from the end when negative. -/
def lastPos (k : Vec F S_ .i32) : Vec F S_ .i32 :=
  select (cmpi .slt (subi k (constantI S_ 32 1#32)) (constantI S_ 32 0#32))
    (addi (subi k (constantI S_ 32 1#32)) (constantI S_ 32 32768#32)) (subi k (constantI S_ 32 1#32))

/-- The running sum at a position. -/
def readAt (cum : Vec F S32768 .f32) (l : Vec F S_ .i32) : Vec F S1 .f32 :=
  Host.dynamicSlice S1 cum (fun _ => (l (Shape.Idx.first h_S_)).toInt) sliceFits_S32768_S1

/-- The threshold, given the support's size and the sum over it. -/
def thresholdOf (u : Vec F S1 .f32) (k : Vec F S_ .i32) : Vec F S_ .f32 :=
  Host.divf (subf (shapeCast S_ u shapeCasts_S1_S_) (constant S_ .f32 0x3F800000#32)) (sitofp .f32 k)

/-- The threshold. -/
def threshold (cum : Vec F S32768 .f32) (k : Vec F S_ .i32) : Vec F S_ .f32 :=
  thresholdOf (readAt cum (lastPos (F := F) k)) k

/-- The probabilities. -/
def probs (z : Vec F S32768 .f32) (t : Vec F S_ .f32) : Vec F S32768 .f32 :=
  maximumf (broadcastInDim S32768 ![] bcast_S_S32768 (id (constant S_ .f32 0x00000000#32)))
    (subf z (broadcastInDim S32768 ![] bcast_S_S32768 t))

/-- The positions of the 64 largest probabilities, as one row. -/
def best (p : Vec F S32768 .f32) : Vec F S1x64 .i32 :=
  shapeCast S1x64 (Host.topK S64 0 (FloatOps.cmpfTotal .gt) p sliceFits_S32768_S64).2 shapeCasts_S64_S1x64

/-- The reference's result as a function of the scores. -/
def result (x : Vec F S32768 .f32) : Vec F S1x64 .i32 :=
  best (probs (scaled x) (threshold (running (sortedDown (scaled x))) (support (sortedDown (scaled x)) (running (sortedDown (scaled x))))))

theorem afterA_v1 (V : Valuation τ sig (Elt F)) :
    after opsA V (Proc.devRef .tc main_v1) = scaled (V (Proc.devRef .tc main_arg0)) := by
  simp only [opsA, opsB, opsC, opsD, TRef.binary, TRef.nullary, TRef.unary, TRef.toBuf, TRef.ofBuf, cast_eq]; after_results_simp <;> rfl

theorem afterA_v3 (V : Valuation τ sig (Elt F)) :
    after opsA V (Proc.devRef .tc main_v3) = sortedDown (scaled (V (Proc.devRef .tc main_arg0))) := by
  simp only [opsA, opsB, opsC, opsD, TRef.binary, TRef.nullary, TRef.unary, TRef.toBuf, TRef.ofBuf, cast_eq]; after_results_simp <;> rfl

theorem afterA_v4 (V : Valuation τ sig (Elt F)) :
    after opsA V (Proc.devRef .tc main_v4) = running (sortedDown (scaled (V (Proc.devRef .tc main_arg0)))) := by
  simp only [opsA, opsB, opsC, opsD, TRef.binary, TRef.nullary, TRef.unary, TRef.toBuf, TRef.ofBuf, cast_eq]; after_results_simp <;> rfl

theorem afterA_arg0 (V : Valuation τ sig (Elt F)) :
    after opsA V (Proc.devRef .tc main_arg0) = V (Proc.devRef .tc main_arg0) := by
  simp only [opsA, opsB, opsC, opsD, TRef.binary, TRef.nullary, TRef.unary, TRef.toBuf, TRef.ofBuf, cast_eq]; after_results_simp <;> rfl

theorem afterB_v15 (V : Valuation τ sig (Elt F)) :
    after opsB V (Proc.devRef .tc main_v15) = support (V (Proc.devRef .tc main_v3)) (V (Proc.devRef .tc main_v4)) := by
  simp only [opsA, opsB, opsC, opsD, TRef.binary, TRef.nullary, TRef.unary, TRef.toBuf, TRef.ofBuf, cast_eq]; after_results_simp <;> rfl

theorem afterB_v1 (V : Valuation τ sig (Elt F)) :
    after opsB V (Proc.devRef .tc main_v1) = V (Proc.devRef .tc main_v1) := by
  simp only [opsA, opsB, opsC, opsD, TRef.binary, TRef.nullary, TRef.unary, TRef.toBuf, TRef.ofBuf, cast_eq]; after_results_simp <;> rfl

theorem afterB_v4 (V : Valuation τ sig (Elt F)) :
    after opsB V (Proc.devRef .tc main_v4) = V (Proc.devRef .tc main_v4) := by
  simp only [opsA, opsB, opsC, opsD, TRef.binary, TRef.nullary, TRef.unary, TRef.toBuf, TRef.ofBuf, cast_eq]; after_results_simp <;> rfl

theorem afterB_arg0 (V : Valuation τ sig (Elt F)) :
    after opsB V (Proc.devRef .tc main_arg0) = V (Proc.devRef .tc main_arg0) := by
  simp only [opsA, opsB, opsC, opsD, TRef.binary, TRef.nullary, TRef.unary, TRef.toBuf, TRef.ofBuf, cast_eq]; after_results_simp <;> rfl

theorem afterC_v19 (V : Valuation τ sig (Elt F)) :
    after opsC V (Proc.devRef .tc main_v19) = lastPos (F := F) (V (Proc.devRef .tc main_v15)) := by
  simp only [opsC, TRef.binary, TRef.nullary, TRef.unary, TRef.toBuf, TRef.ofBuf, cast_eq]; after_results_simp <;> rfl

theorem afterC_v4 (V : Valuation τ sig (Elt F)) :
    after opsC V (Proc.devRef .tc main_v4) = V (Proc.devRef .tc main_v4) := by
  simp only [opsC, TRef.binary, TRef.nullary, TRef.unary, TRef.toBuf, TRef.ofBuf, cast_eq]; after_results_simp <;> rfl

theorem afterC_v15 (V : Valuation τ sig (Elt F)) :
    after opsC V (Proc.devRef .tc main_v15) = V (Proc.devRef .tc main_v15) := by
  simp only [opsC, TRef.binary, TRef.nullary, TRef.unary, TRef.toBuf, TRef.ofBuf, cast_eq]; after_results_simp <;> rfl

theorem afterE_v20 (V : Valuation τ sig (Elt F)) :
    after opsE V (Proc.devRef .tc main_v20) = readAt (V (Proc.devRef .tc main_v4)) (V (Proc.devRef .tc main_v19)) := by
  rw [opsE, after_cons, after_nil, unaryIndexed_result]
  unfold readAt
  congr 1
  funext k
  fin_cases k
  rfl

theorem afterE_v15 (V : Valuation τ sig (Elt F)) :
    after opsE V (Proc.devRef .tc main_v15) = V (Proc.devRef .tc main_v15) := by
  simp only [opsE, TRef.binary, TRef.nullary, TRef.unary, TRef.toBuf, TRef.ofBuf, cast_eq]; after_results_simp <;> rfl

theorem afterG_v24 (V : Valuation τ sig (Elt F)) :
    after opsG V (Proc.devRef .tc main_v24) = thresholdOf (V (Proc.devRef .tc main_v20)) (V (Proc.devRef .tc main_v15)) := by
  simp only [opsG, TRef.binary, TRef.nullary, TRef.unary, TRef.toBuf, TRef.ofBuf, cast_eq]; after_results_simp <;> rfl

theorem afterG_v1 (V : Valuation τ sig (Elt F)) :
    after opsG V (Proc.devRef .tc main_v1) = V (Proc.devRef .tc main_v1) := by
  simp only [opsG, TRef.binary, TRef.nullary, TRef.unary, TRef.toBuf, TRef.ofBuf, cast_eq]; after_results_simp <;> rfl

theorem afterG_arg0 (V : Valuation τ sig (Elt F)) :
    after opsG V (Proc.devRef .tc main_arg0) = V (Proc.devRef .tc main_arg0) := by
  simp only [opsG, TRef.binary, TRef.nullary, TRef.unary, TRef.toBuf, TRef.ofBuf, cast_eq]; after_results_simp <;> rfl

theorem afterE_v1 (V : Valuation τ sig (Elt F)) :
    after opsE V (Proc.devRef .tc main_v1) = V (Proc.devRef .tc main_v1) := by
  simp only [opsE, TRef.binary, TRef.nullary, TRef.unary, TRef.toBuf, TRef.ofBuf, cast_eq]; after_results_simp <;> rfl

theorem afterE_arg0 (V : Valuation τ sig (Elt F)) :
    after opsE V (Proc.devRef .tc main_arg0) = V (Proc.devRef .tc main_arg0) := by
  simp only [opsE, TRef.binary, TRef.nullary, TRef.unary, TRef.toBuf, TRef.ofBuf, cast_eq]; after_results_simp <;> rfl

theorem afterC_v1 (V : Valuation τ sig (Elt F)) :
    after opsC V (Proc.devRef .tc main_v1) = V (Proc.devRef .tc main_v1) := by
  simp only [opsA, opsB, opsC, opsD, TRef.binary, TRef.nullary, TRef.unary, TRef.toBuf, TRef.ofBuf, cast_eq]; after_results_simp <;> rfl

theorem afterC_arg0 (V : Valuation τ sig (Elt F)) :
    after opsC V (Proc.devRef .tc main_arg0) = V (Proc.devRef .tc main_arg0) := by
  simp only [opsA, opsB, opsC, opsD, TRef.binary, TRef.nullary, TRef.unary, TRef.toBuf, TRef.ofBuf, cast_eq]; after_results_simp <;> rfl

theorem afterD_v28 (V : Valuation τ sig (Elt F)) :
    after opsD V (Proc.devRef .tc main_v28) = best (probs (V (Proc.devRef .tc main_v1)) (V (Proc.devRef .tc main_v24))) := by
  simp only [opsA, opsB, opsC, opsD, TRef.binary, TRef.nullary, TRef.unary, TRef.toBuf, TRef.ofBuf, cast_eq]; after_results_simp <;> rfl

theorem afterD_arg0 (V : Valuation τ sig (Elt F)) :
    after opsD V (Proc.devRef .tc main_arg0) = V (Proc.devRef .tc main_arg0) := by
  simp only [opsA, opsB, opsC, opsD, TRef.binary, TRef.nullary, TRef.unary, TRef.toBuf, TRef.ofBuf, cast_eq]; after_results_simp <;> rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., ternary_bufs_sub .., unaryIndexed_bufs_sub .., reshape_bufs_sub .., nullary_bufs_sub .., binary_bufs_sub .., unary_bufs_sub .., binary_bufs_sub .., unary_bufs_sub .., binary_bufs_sub .., nullary_bufs_sub .., unary_bufs_sub .., unary_bufs_sub .., binary_bufs_sub .., unary_bufs_sub .., unary_bufs_sub .., reshape_bufs_sub ..⟩

set_option maxRecDepth 8192 in
/-- Every run of the reference ends with its result buffer at `result` of the scores, the scores unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = result (m ((c.tc : Thread nD τ).loc main_arg0))
      ∧ r.2.mem ((c.tc : Thread nD τ).loc main_arg0) = m ((c.tc : Thread nD τ).loc main_arg0) := by
  refine (θ_run defs _ _).mono (fun _ h c => ⟨(h c main_v28).trans ?_, (h c main_arg0).trans ?_⟩)
    (run_seq scopedRefs_eq scopedSems_eq defs main (fun _ => ops) main_eq (fun _ => ops_sub) m ρ)
  · rw [after_app, after_app, after_app, after_app, after_app, afterD_v28, afterG_v1, afterG_v24, afterE_v1, afterE_v15, afterE_v20, afterC_v1, afterC_v4, afterC_v15, afterC_v19, afterB_v1, afterB_v4, afterB_v15, afterA_v1, afterA_v3, afterA_v4]
    rfl
  · rw [after_app, after_app, after_app, after_app, after_app, afterD_arg0, afterG_arg0, afterE_arg0, afterC_arg0, afterB_arg0, afterA_arg0]

end Cert.ReferenceIdeal.Read

end
-- ==== Proof.Stage.lean ====
/-
  One compare-exchange stage of the sort, and one fold by maxima, read on the columns of a vector of `n` rows and `W` lanes.

  The kernel keeps a value vector and an index vector side by side. An entry is the pair of both, and entries are ordered by value
  first and, at equal values, with the smaller index the greater (`key`). Row `r` of lane `c` holds the entry `colKey … c r`.
  * `Swap` says that a vector is another one with every row exchanged with the row whose number differs in one bit; the two printed
    forms of it (two rotations and a select, or a concatenation of slices) are `swap_of_select` and `swap_of_pieces`.
  * `stage_step`: the printed selects of a stage act on every column as `SortNet.stage` acts on its entries.
  * `max_step`: the printed select of the greater entry is the maximum of the keys.
-/
module

public import Idealize.ShloMosaic.Lib.SortNet.Printed
public import Idealize.ShloMosaic.Lib.SortNet.Bitonic
public import Idealize.ShloMosaic.Lib.Pipeline.Value
public import Idealize.ShloMosaic.Lib.Pointwise.Index

@[expose] public section

namespace Cert.Sparse

open Idealize.ShloMosaic Idealize.ShloMosaic.Pointwise Idealize.ShloMosaic.SortNet

/-- The entries' order: by value, and at equal values the smaller index is the greater entry. -/
abbrev Key := Lex (EReal × (ℤ)ᵒᵈ)

/-- The key of the entry with value `a` and index word `i`. -/
def key (a : EReal) (i : BitVec 32) : Key := toLex (a, OrderDual.toDual i.toInt)

theorem key_lt_iff (a b : EReal) (i j : BitVec 32) : key b j < key a i ↔ b < a ∨ (a = b ∧ i.toInt < j.toInt) := by
  unfold key
  rw [Prod.Lex.toLex_lt_toLex]
  simp only [OrderDual.toDual_lt_toDual]
  constructor
  · rintro (h | ⟨h, h'⟩)
    · exact Or.inl h
    · exact Or.inr ⟨h.symm, h'⟩
  · rintro (h | ⟨h, h'⟩)
    · exact Or.inl h
    · exact Or.inr ⟨h.symm, h'⟩

variable {n W P : Nat}

/-- The entries of lane `c`, one for each row. -/
def colKey (hn : 2 ^ P = n) (v : (⟨2, ![n, W]⟩ : Shape).Idx → EReal) (i : (⟨2, ![n, W]⟩ : Shape).Idx → BitVec 32) (c : Fin W)
    (r : Fin (2 ^ P)) : Key :=
  key (v (ix2 (r.cast hn) c)) (i (ix2 (r.cast hn) c))

/-- The printed comparison "the first entry is the greater one". -/
noncomputable abbrev gtMask {s : Shape} (v pv : FVec Ideal s .f32) (i pi : IVec s 32) : IVec s 1 :=
  ori (cmpf .ogt v pv) (andi (cmpf .oeq v pv) (cmpi .slt i pi))

theorem gtMask_apply {s : Shape} (v pv : FVec Ideal s .f32) (i pi : IVec s 32) (j : s.Idx) :
    gtMask v pv i pi j = BitVec.ofBool (decide (key (pv j) (pi j) < key (v j) (i j))) := by
  show IntOp.ori (BitVec.ofBool (decide ((v j : EReal) > pv j)))
    (IntOp.andi (BitVec.ofBool (decide ((v j : EReal) = pv j))) (BitVec.ofBool ((i j).slt (pi j)))) = _
  have e : decide (key (pv j) (pi j) < key (v j) (i j))
      = (decide ((v j : EReal) > pv j) || (decide ((v j : EReal) = pv j) && (i j).slt (pi j))) := by
    rw [Bool.eq_iff_iff]
    simp only [decide_eq_true_eq, Bool.or_eq_true, Bool.and_eq_true, key_lt_iff, BitVec.slt_iff_toInt_lt, gt_iff_lt]
  rw [e]
  generalize decide ((v j : EReal) > pv j) = a
  generalize decide ((v j : EReal) = pv j) = b
  generalize (i j).slt (pi j) = d
  cases a <;> cases b <;> cases d <;> rfl

/-- The printed mask of a stage: where it is set, a row keeps its own entry. -/
noncomputable abbrev keepMask {s : Shape} (v pv : FVec Ideal s .f32) (i pi : IVec s 32) (q : IVec s 1) : IVec s 1 :=
  xori (xori (gtMask v pv i pi) q) (constantI s 1 1#1)

/-- Bit `s` of the row number is clear. -/
def bitClear (s : Nat) (r : Fin (2 ^ P)) : Bool := decide (r.val &&& 2 ^ s = 0)

/-- `pv` is `v` with each row exchanged with the row whose number differs in bit `s`. -/
def Swap {α : Type} (hn : 2 ^ P = n) (s : Nat) (v pv : (⟨2, ![n, W]⟩ : Shape).Idx → α) : Prop :=
  ∀ (r : Fin (2 ^ P)) (c : Fin W), pv (ix2 (r.cast hn) c) = v (ix2 ((partner P s r).cast hn) c)

/-- `m` holds, at every row `r` and every lane, the truth of `k r`. -/
def Rows (hn : 2 ^ P = n) (m : IVec (⟨2, ![n, W]⟩ : Shape) 1) (k : Fin (2 ^ P) → Bool) : Prop :=
  ∀ (r : Fin (2 ^ P)) (c : Fin W), m (ix2 (r.cast hn) c) = BitVec.ofBool (k r)

theorem Rows.xnor {hn : 2 ^ P = n} {m m' : IVec (⟨2, ![n, W]⟩ : Shape) 1} {k k' : Fin (2 ^ P) → Bool} (h : Rows hn m k) (h' : Rows hn m' k') :
    Rows hn (xori (xori m m') (constantI _ 1 1#1)) (fun r => k r == k' r) := fun r c => by
  show IntOp.xori (IntOp.xori (m _) (m' _)) 1#1 = _
  rw [h r c, h' r c]
  beta_reduce
  generalize k r = x
  generalize k' r = y
  cases x <;> cases y <;> rfl

/-- One printed stage at distance `2 ^ s`. -/
theorem stage_step {hn : 2 ^ P = n} {s : Nat} (hs : s < P) {keep : Fin (2 ^ P) → Bool}
    {v pv v' : FVec Ideal (⟨2, ![n, W]⟩ : Shape) .f32} {i pi i' : IVec (⟨2, ![n, W]⟩ : Shape) 32} {q : IVec (⟨2, ![n, W]⟩ : Shape) 1}
    (hv : v' = select (keepMask v pv i pi q) v pv) (hi : i' = select (keepMask v pv i pi q) i pi)
    (hp : Swap hn s v pv) (hpi : Swap hn s i pi) (hq : Rows hn q keep)
    (hkeep : ∀ j, keep (partner P s j) = !keep j) (c : Fin W) :
    colKey hn v' i' c = Network.apply (stage P s keep) (colKey hn v i c) := by
  subst hv hi
  funext j
  rw [apply_stage_select hs keep hkeep]
  have hm : keepMask v pv i pi q (ix2 (j.cast hn) c)
      = BitVec.ofBool (decide (decide (colKey hn v i c (partner P s j) < colKey hn v i c j) = keep j)) := by
    show IntOp.xori (IntOp.xori (gtMask v pv i pi (ix2 (j.cast hn) c)) (q (ix2 (j.cast hn) c))) 1#1 = _
    rw [gtMask_apply, hq j c, hp j c, hpi j c, ofBool_xor_xor_one]
    rfl
  unfold colKey
  rw [Idealize.ShloMosaic.SortNet.select_apply, Idealize.ShloMosaic.SortNet.select_apply, hm, select_ofBool, select_ofBool, hp j c, hpi j c]
  unfold colKey
  by_cases hk : decide (key (v (ix2 ((partner P s j).cast hn) c)) (i (ix2 ((partner P s j).cast hn) c)) < key (v (ix2 (j.cast hn) c)) (i (ix2 (j.cast hn) c))) = keep j
  · rw [if_pos (by simpa using hk), if_pos (by simpa using hk), if_pos (by simpa using hk)]
  · rw [if_neg (by simpa using hk), if_neg (by simpa using hk), if_neg (by simpa using hk)]

/-- The stage of a fixed direction, given by the mask of the bit. -/
theorem keep_bit {s : Nat} (hs : s < P) (j : Fin (2 ^ P)) :
    decide ((partner P s j).val &&& 2 ^ s = 0) = !decide (j.val &&& 2 ^ s = 0) := by
  by_cases hj : j.val &&& 2 ^ s = 0
  · have h1 : (partner P s j).val &&& 2 ^ s ≠ 0 := by
      rw [partner_and hs j hj]; exact Nat.pos_iff_ne_zero.mp (Nat.two_pow_pos s)
    rw [decide_eq_true hj, decide_eq_false h1]; rfl
  · rw [decide_eq_false hj, decide_eq_true (partner_and_of_set hs j hj)]; rfl

/-- The printed select of the greater of two entries. -/
theorem max_step {s : Shape} {a b : FVec Ideal s .f32} {i j : IVec s 32} (x : s.Idx) :
    key (select (gtMask a b i j) a b x) (select (gtMask a b i j) i j x) = max (key (a x) (i x)) (key (b x) (j x)) := by
  rw [Idealize.ShloMosaic.SortNet.select_apply, Idealize.ShloMosaic.SortNet.select_apply, gtMask_apply, select_ofBool, select_ofBool]
  by_cases h : key (b x) (j x) < key (a x) (i x)
  · rw [decide_eq_true h, if_pos rfl, if_pos rfl, max_eq_left h.le]
  · rw [decide_eq_false h, if_neg (by decide), if_neg (by decide), max_eq_right (not_lt.mp h)]

/-! ## The two printed forms of an exchange of rows -/

/-- The rows by pieces: piece `k` of `d` rows comes from the rows of piece `k ^^^ 1`. -/
def SwapPieces {α : Type} (d : Nat) (v : (⟨2, ![n, W]⟩ : Shape).Idx → α) : Nat → List ((s : Shape) × (s.Idx → α)) → Prop
  | _, [] => True
  | k, x :: xs => (∃ h, x = ⟨⟨2, ![d, W]⟩, extractStridedSlice ⟨2, ![d, W]⟩ ![(k ^^^ 1) * d, 0] v h⟩) ∧ SwapPieces d v (k + 1) xs

theorem SwapPieces.nil {α : Type} {d k : Nat} {v : (⟨2, ![n, W]⟩ : Shape).Idx → α} : SwapPieces d v k [] := trivial

theorem SwapPieces.cons {α : Type} {d k : Nat} {v : (⟨2, ![n, W]⟩ : Shape).Idx → α} {x : (s : Shape) × (s.Idx → α)}
    {xs : List ((s : Shape) × (s.Idx → α))}
    (h : Shape.Slices (⟨2, ![n, W]⟩ : Shape) ![(k ^^^ 1) * d, 0] ⟨2, ![d, W]⟩)
    (hx : x = ⟨⟨2, ![d, W]⟩, extractStridedSlice ⟨2, ![d, W]⟩ ![(k ^^^ 1) * d, 0] v h⟩) (hxs : SwapPieces d v (k + 1) xs) :
    SwapPieces d v k (x :: xs) := ⟨⟨h, hx⟩, hxs⟩

theorem SwapPieces.get {α : Type} {d : Nat} {v : (⟨2, ![n, W]⟩ : Shape).Idx → α} : ∀ {xs : List ((s : Shape) × (s.Idx → α))} {k : Nat},
    SwapPieces d v k xs → ∀ t (ht : t < xs.length),
      ∃ h, xs[t] = ⟨⟨2, ![d, W]⟩, extractStridedSlice ⟨2, ![d, W]⟩ ![((k + t) ^^^ 1) * d, 0] v h⟩
  | [], _, _, t, ht => absurd ht (Nat.not_lt_zero _)
  | x :: xs, k, h, 0, _ => h.1
  | x :: xs, k, h, t + 1, ht => by
    have := SwapPieces.get h.2 t (Nat.lt_of_succ_lt_succ ht)
    rw [show k + (t + 1) = k + 1 + t by omega]
    exact this

theorem SwapPieces.sum {α : Type} {d : Nat} {v : (⟨2, ![n, W]⟩ : Shape).Idx → α} : ∀ {xs : List ((s : Shape) × (s.Idx → α))} {k : Nat},
    SwapPieces d v k xs → ∀ t, t ≤ xs.length →
      (((xs.take t).map (·.1)).map fun s : Shape => if h : s.rank = 2 then s.size ((0 : Fin 2).cast h.symm) else 0).sum = t * d
  | _, _, _, 0, _ => by simp
  | [], _, _, t + 1, ht => absurd ht (by simp)
  | x :: xs, k, h, t + 1, ht => by
    have ih := SwapPieces.sum h.2 t (Nat.le_of_succ_le_succ ht)
    obtain ⟨h0, e⟩ := h.1
    rw [List.take_succ_cons, List.map_cons, List.map_cons, List.sum_cons, ih, e]
    show (if h : (2 : Nat) = 2 then (![d, W] : Fin 2 → Nat) ((0 : Fin 2).cast h.symm) else 0) + _ = _
    rw [dif_pos rfl]
    show d + t * d = _
    ring

/-- A concatenation of slices of `d = 2 ^ s` rows, neighbours exchanged. -/
theorem swap_of_pieces {α : Type} {hn : 2 ^ P = n} {s d : Nat} (hs : s < P) (hd : d = 2 ^ s) {v pv : (⟨2, ![n, W]⟩ : Shape).Idx → α}
    {xs : List ((s : Shape) × (s.Idx → α))}
    (h : Shape.Concatenates (xs.map (·.1)) ⟨2, ![n, W]⟩ 0 := by dsimp only [List.map]; decide)
    (hpv : pv = concatenate ⟨2, ![n, W]⟩ 0 xs h) (hl : xs.length * d = n)
    (hx : SwapPieces d v 0 xs := by repeat' first | exact SwapPieces.nil | refine SwapPieces.cons (by decide) rfl ?_) : Swap hn s v pv := by
  intro r c
  subst hpv hd
  have hrn : r.val < xs.length * 2 ^ s := by rw [hl, ← hn]; exact r.isLt
  have hk : r.val / 2 ^ s < xs.length := Nat.div_lt_of_lt_mul (by rw [Nat.mul_comm]; exact hrn)
  obtain ⟨hsl, hget⟩ := hx.get (r.val / 2 ^ s) hk
  have hmod : r.val % 2 ^ s < 2 ^ s := Nat.mod_lt _ (Nat.two_pow_pos s)
  have hdm : r.val / 2 ^ s * 2 ^ s + r.val % 2 ^ s = r.val := by rw [Nat.mul_comm]; exact Nat.div_add_mod _ _
  rw [concatenate_apply_piece (t := ⟨2, ![n, W]⟩) 0 xs h (ix2 (r.cast hn) c) (r.val / 2 ^ s) hk _ _ hget rfl (r.val / 2 ^ s * 2 ^ s)
    (hx.sum _ hk.le) (ix2 ⟨r.val % 2 ^ s, hmod⟩ c)
    (fun b hb => by
      match b with
      | ⟨0, _⟩ => exact absurd rfl hb
      | ⟨1, _⟩ => rfl)
    hdm]
  refine extractStridedSlice_apply _ _ _ _ _ fun a => ?_
  match a with
  | ⟨0, _⟩ =>
    show (partner P s r).val = ((0 + r.val / 2 ^ s) ^^^ 1) * 2 ^ s + r.val % 2 ^ s
    rw [partner_val hs, Nat.zero_add]
    apply Nat.eq_of_testBit_eq
    intro t
    rw [Nat.mul_comm, Nat.testBit_two_pow_mul_add _ hmod, Nat.testBit_xor, Nat.testBit_two_pow]
    by_cases ht : t < s
    · rw [if_pos ht, Nat.testBit_mod_two_pow, decide_eq_true ht, decide_eq_false (by omega : ¬ s = t)]
      simp
    · rw [if_neg ht, Nat.testBit_xor, Nat.testBit_div_two_pow, show t - s + s = t by omega, show (1 : Nat) = 2 ^ 0 from rfl, Nat.testBit_two_pow]
      congr 1
      rw [decide_eq_decide]; omega
  | ⟨1, _⟩ => show c.val = 0 + c.val; omega

/-- Two rotations by `d = 2 ^ s` rows, one up and one down, and a select on the bit. -/
theorem swap_of_select {α : Type} {hn : 2 ^ P = n} {s d e : Nat} (hs : s < P) (hd : d = 2 ^ s) {v pv : (⟨2, ![n, W]⟩ : Shape).Idx → α}
    {m : IVec (⟨2, ![n, W]⟩ : Shape) 1}
    (h₁ : Shape.Slices (⟨2, ![n, W]⟩ : Shape) ![d, 0] ⟨2, ![e, W]⟩ := by decide)
    (h₂ : Shape.Slices (⟨2, ![n, W]⟩ : Shape) ![0, 0] ⟨2, ![d, W]⟩ := by decide)
    (h₃ : Shape.Slices (⟨2, ![n, W]⟩ : Shape) ![e, 0] ⟨2, ![d, W]⟩ := by decide)
    (h₄ : Shape.Slices (⟨2, ![n, W]⟩ : Shape) ![0, 0] ⟨2, ![e, W]⟩ := by decide)
    (c₁ : Shape.Concatenates [(⟨2, ![e, W]⟩ : Shape), ⟨2, ![d, W]⟩] ⟨2, ![n, W]⟩ 0 := by decide)
    (c₂ : Shape.Concatenates [(⟨2, ![d, W]⟩ : Shape), ⟨2, ![e, W]⟩] ⟨2, ![n, W]⟩ 0 := by decide)
    (hm : Rows hn m (bitClear s))
    (hpv : pv = select m
      (concatenate ⟨2, ![n, W]⟩ 0 [⟨⟨2, ![e, W]⟩, extractStridedSlice ⟨2, ![e, W]⟩ ![d, 0] v h₁⟩,
        ⟨⟨2, ![d, W]⟩, extractStridedSlice ⟨2, ![d, W]⟩ ![0, 0] v h₂⟩] c₁)
      (concatenate ⟨2, ![n, W]⟩ 0 [⟨⟨2, ![d, W]⟩, extractStridedSlice ⟨2, ![d, W]⟩ ![e, 0] v h₃⟩,
        ⟨⟨2, ![e, W]⟩, extractStridedSlice ⟨2, ![e, W]⟩ ![0, 0] v h₄⟩] c₂))
    (he : e + d = n) : Swap hn s v pv := by
  intro r c
  subst hpv hd
  rw [Idealize.ShloMosaic.SortNet.select_apply, hm r c, select_ofBool]
  unfold bitClear
  by_cases hr : r.val &&& 2 ^ s = 0
  · rw [decide_eq_true hr, if_pos rfl]
    have hv := partner_val_of_clear hs r hr
    have hlt : (partner P s r).val < n := lt_of_lt_of_eq (partner P s r).isLt hn
    have hre : r.val < e := by omega
    rw [concatenate_apply_piece (t := ⟨2, ![n, W]⟩) 0 [⟨⟨2, ![e, W]⟩, extractStridedSlice ⟨2, ![e, W]⟩ ![2 ^ s, 0] v h₁⟩, ⟨⟨2, ![2 ^ s, W]⟩, extractStridedSlice ⟨2, ![2 ^ s, W]⟩ ![0, 0] v h₂⟩]
      c₁ (ix2 (r.cast hn) c) 0 (by simp) ⟨2, ![e, W]⟩ _ rfl rfl 0 (by simp) (ix2 ⟨r.val, hre⟩ c)
      (fun b hb => by
        match b with
        | ⟨0, _⟩ => exact absurd rfl hb
        | ⟨1, _⟩ => rfl)
      (by show 0 + r.val = r.val; omega)]
    refine extractStridedSlice_apply _ _ _ _ _ fun a => ?_
    match a with
    | ⟨0, _⟩ => show (partner P s r).val = 2 ^ s + r.val; omega
    | ⟨1, _⟩ => show c.val = 0 + c.val; omega
  · rw [decide_eq_false hr, if_neg (by decide)]
    have hv := (partner_val_of_set hs r hr).2
    have hv' := (partner_val_of_set hs r hr).1
    have hlt : r.val < n := lt_of_lt_of_eq r.isLt hn
    have hre : r.val - 2 ^ s < e := by omega
    rw [concatenate_apply_piece (t := ⟨2, ![n, W]⟩) 0 [⟨⟨2, ![2 ^ s, W]⟩, extractStridedSlice ⟨2, ![2 ^ s, W]⟩ ![e, 0] v h₃⟩, ⟨⟨2, ![e, W]⟩, extractStridedSlice ⟨2, ![e, W]⟩ ![0, 0] v h₄⟩]
      c₂ (ix2 (r.cast hn) c) 1 (by simp) ⟨2, ![e, W]⟩ _ rfl rfl (2 ^ s) (by simp) (ix2 ⟨r.val - 2 ^ s, hre⟩ c)
      (fun b hb => by
        match b with
        | ⟨0, _⟩ => exact absurd rfl hb
        | ⟨1, _⟩ => rfl)
      (by show 2 ^ s + (r.val - 2 ^ s) = r.val; omega)]
    refine extractStridedSlice_apply _ _ _ _ _ fun a => ?_
    match a with
    | ⟨0, _⟩ => show (partner P s r).val = 0 + (r.val - 2 ^ s); omega
    | ⟨1, _⟩ => show c.val = 0 + c.val; omega

/-! ## Masks made from the row numbers -/

/-- The printed mask "the row number and `d` have no bit in common", for `d = 2 ^ s`. -/
theorem rows_mask {hn : 2 ^ P = n} {s : Nat} {d : BitVec 32} {m : IVec (⟨2, ![n, W]⟩ : Shape) 1} {κ : Kind} {hI}
    (hm : m = cmpi .eq (andi (iota κ ⟨2, ![n, W]⟩ 32 [0] hI) (broadcast ⟨2, ![n, W]⟩ d)) (broadcast ⟨2, ![n, W]⟩ 0#32)) (hP : P ≤ 32)
    (hd : d.toNat = 2 ^ s) : Rows hn m (bitClear s) := fun r c => by
  have hr : r.val < 2 ^ 32 := lt_of_lt_of_le r.isLt (Nat.pow_le_pow_right (by decide) hP)
  subst hm
  show BitVec.ofBool (IntOp.andi (iota κ ⟨2, ![n, W]⟩ 32 [0] hI (ix2 (r.cast hn) c)) d == 0#32) = _
  have e : iota κ ⟨2, ![n, W]⟩ 32 [0] hI (ix2 (r.cast hn) c) = BitVec.ofNat 32 r.val := by
    unfold iota
    rw [List.foldl_cons, List.foldl_nil, Nat.zero_mul, Nat.zero_add]
    rfl
  rw [e]
  congr 1
  unfold bitClear
  rw [Bool.eq_iff_iff, beq_iff_eq, decide_eq_true_eq, and_distance_eq_zero_iff hr d hd]

/-- The first rows and lanes of such a mask. -/
theorem Rows.slice {n' W' P' s : Nat} {hn : 2 ^ P = n} {hn' : 2 ^ P' = n'} {m : IVec (⟨2, ![n, W]⟩ : Shape) 1}
    {m' : IVec (⟨2, ![n', W']⟩ : Shape) 1}
    (h : Shape.Slices (⟨2, ![n, W]⟩ : Shape) ![0, 0] ⟨2, ![n', W']⟩ := by decide) (hm' : m' = extractStridedSlice ⟨2, ![n', W']⟩ ![0, 0] m h) (hP : P' ≤ P) (hW : W' ≤ W)
    (hm : Rows hn m (bitClear s)) : Rows hn' m' (bitClear s) := fun r c => by
  have hr : r.val < 2 ^ P := lt_of_lt_of_le r.isLt (Nat.pow_le_pow_right (by decide) hP)
  subst hm'
  rw [extractStridedSlice_apply _ _ _ _ (ix2 ((⟨r.val, hr⟩ : Fin (2 ^ P)).cast hn) (c.castLE hW)) fun a => by
    match a with
    | ⟨0, _⟩ => show r.val = 0 + r.val; omega
    | ⟨1, _⟩ => show c.val = 0 + c.val; omega, hm]
  rfl

/-! ## A run of stages -/

/-- The direction of a stage: always the greater entry first, or by bit `l + 1` of the position. -/
def dirOf : Option Nat → Fin (2 ^ P) → Bool
  | none => fun _ => true
  | some l => fun i => decide (i.val &&& 2 ^ (l + 1) = 0) == true

/-- The stages of a list, the last one to act at its head. -/
def netOf (P : Nat) : List (Nat × Option Nat) → Network (2 ^ P)
  | [] => []
  | x :: xs => netOf P xs ++ stage P x.1 (dirOf x.2)

theorem beq_true_eq : ∀ b : Bool, (b == true) = b := by decide

section run

variable {hn : 2 ^ P = n} {s d e l : Nat} {L : List (Nat × Option Nat)} {v pv v' : FVec Ideal (⟨2, ![n, W]⟩ : Shape) .f32}
  {i pi i' : IVec (⟨2, ![n, W]⟩ : Shape) 32} {m mk : IVec (⟨2, ![n, W]⟩ : Shape) 1} {c : Fin W} {w : Fin (2 ^ P) → Key}

/-- A stage whose direction goes by bit `l + 1`, after the stages `L`. -/
theorem dir_step (hs : s < P) (hl : s ≤ l) (hm : Rows hn m (bitClear s)) (hk : Rows hn mk (bitClear (l + 1)))
    (hv : v' = select (keepMask v pv i pi (xori (xori m mk) (constantI _ 1 1#1))) v pv)
    (hi : i' = select (keepMask v pv i pi (xori (xori m mk) (constantI _ 1 1#1))) i pi)
    (hp : Swap hn s v pv) (hpi : Swap hn s i pi) (h : colKey hn v i c = Network.apply (netOf P L) w) :
    colKey hn v' i' c = Network.apply (netOf P ((s, some l) :: L)) w := by
  rw [stage_step hs hv hi hp hpi (hm.xnor hk) (fun j => by
    have e := sizeClear_partner hs hl true j
    rw [beq_true_eq, beq_true_eq] at e
    unfold bitClear
    rw [keep_bit hs, e]
    generalize decide (j.val &&& 2 ^ s = 0) = a
    generalize decide (j.val &&& 2 ^ (l + 1) = 0) = b
    cases a <;> cases b <;> rfl) c, h]
  show _ = Network.apply (netOf P L ++ stage P s (dirOf (some l))) w
  rw [Network.apply_append]
  congr 1
  refine stage_congr fun j hj => ?_
  show (decide (j.val &&& 2 ^ s = 0) == decide (j.val &&& 2 ^ (l + 1) = 0)) = (decide (j.val &&& 2 ^ (l + 1) = 0) == true)
  rw [decide_eq_true hj, Bool.true_beq, beq_true_eq]

/-- A stage with the greater entry always first, after the stages `L`. -/
theorem merge_step (hs : s < P) (hm : Rows hn m (bitClear s))
    (hv : v' = select (keepMask v pv i pi m) v pv) (hi : i' = select (keepMask v pv i pi m) i pi)
    (hp : Swap hn s v pv) (hpi : Swap hn s i pi) (h : colKey hn v i c = Network.apply (netOf P L) w) :
    colKey hn v' i' c = Network.apply (netOf P ((s, none) :: L)) w := by
  rw [stage_step hs hv hi hp hpi hm (fun j => keep_bit hs j) c, h]
  show _ = Network.apply (netOf P L ++ stage P s (dirOf none)) w
  rw [Network.apply_append]
  congr 1
  exact stage_congr fun j hj => decide_eq_true hj

end run

end Cert.Sparse
-- ==== Proof.Phase1.lean ====
/-
  Phase 1 of the kernel: every lane's 256 entries go through the first six levels of the bitonic sort, so that its four blocks of
  64 rows are sorted, alternately descending and ascending.
-/
module

public import proofs.«01_k».proof.Proof.Gen.KernelIdeal.Frame
public import proofs.«01_k».proof.Proof.Stage

@[expose] public section

namespace Cert.Sparse

open Idealize.ShloMosaic Idealize.ShloMosaic.TcCoe Idealize.ShloMosaic.SortNet Cert.KernelIdeal Cert.KernelIdeal.Gen

/-- 256 rows are `2 ^ 8` rows. -/
theorem rows256 : 2 ^ 8 = 256 := rfl

theorem mask256_0 : Rows (P := 8) rows256 k0_pay3 (bitClear 0) := rows_mask rfl (by decide) rfl

theorem mask256_1 : Rows (P := 8) rows256 k0_pay4 (bitClear 1) := rows_mask rfl (by decide) rfl

theorem mask256_2 : Rows (P := 8) rows256 k0_pay5 (bitClear 2) := rows_mask rfl (by decide) rfl

theorem mask256_3 : Rows (P := 8) rows256 k0_pay6 (bitClear 3) := rows_mask rfl (by decide) rfl

theorem mask256_4 : Rows (P := 8) rows256 k0_pay7 (bitClear 4) := rows_mask rfl (by decide) rfl

theorem mask256_5 : Rows (P := 8) rows256 k0_pay8 (bitClear 5) := rows_mask rfl (by decide) rfl

theorem mask256_6 : Rows (P := 8) rows256 k0_pay9 (bitClear 6) := rows_mask rfl (by decide) rfl

variable (c : Dev nD) (arg0 : Memref sig .tc .vmem S256x128 .f32) (harg0 : arg0.IsWhole) (x0 : Vec Ideal S256x128 .f32)

/-- Phase 1 on lane `l`: the printed stages are these stages of a network. -/
theorem phase1_net (l : Fin 128) :
    colKey rows256 (kernelRun0_A.sl.r_126 (F := Ideal) c arg0 harg0 x0) (kernelRun0_A.sl.r_127 (F := Ideal) c arg0 harg0 x0) l
      = Network.apply (netOf 8 [(0, some 5), (1, some 5), (2, some 5), (3, some 5), (4, some 5), (5, some 5), (0, some 4), (1, some 4), (2, some 4), (3, some 4), (4, some 4), (0, some 3), (1, some 3), (2, some 3), (3, some 3), (0, some 2), (1, some 2), (2, some 2), (0, some 1), (1, some 1), (0, some 0)])
        (colKey rows256 (kernelRun0_A.sl.r (F := Ideal) c arg0 harg0 x0) k0_pay2 l) := by
  refine dir_step (by decide) (by decide) mask256_0 mask256_6 rfl rfl
    (swap_of_select (d := 1) (e := 255) (by decide) rfl (hm := mask256_0) (hpv := rfl) (he := rfl))
    (swap_of_select (d := 1) (e := 255) (by decide) rfl (hm := mask256_0) (hpv := rfl) (he := rfl)) ?_
  refine dir_step (by decide) (by decide) mask256_1 mask256_6 rfl rfl
    (swap_of_select (d := 2) (e := 254) (by decide) rfl (hm := mask256_1) (hpv := rfl) (he := rfl))
    (swap_of_select (d := 2) (e := 254) (by decide) rfl (hm := mask256_1) (hpv := rfl) (he := rfl)) ?_
  refine dir_step (by decide) (by decide) mask256_2 mask256_6 rfl rfl
    (swap_of_select (d := 4) (e := 252) (by decide) rfl (hm := mask256_2) (hpv := rfl) (he := rfl))
    (swap_of_select (d := 4) (e := 252) (by decide) rfl (hm := mask256_2) (hpv := rfl) (he := rfl)) ?_
  refine dir_step (by decide) (by decide) mask256_3 mask256_6 rfl rfl
    (swap_of_pieces (d := 8) (by decide) rfl (hpv := rfl) (hl := rfl))
    (swap_of_pieces (d := 8) (by decide) rfl (hpv := rfl) (hl := rfl)) ?_
  refine dir_step (by decide) (by decide) mask256_4 mask256_6 rfl rfl
    (swap_of_pieces (d := 16) (by decide) rfl (hpv := rfl) (hl := rfl))
    (swap_of_pieces (d := 16) (by decide) rfl (hpv := rfl) (hl := rfl)) ?_
  refine dir_step (by decide) (by decide) mask256_5 mask256_6 rfl rfl
    (swap_of_pieces (d := 32) (by decide) rfl (hpv := rfl) (hl := rfl))
    (swap_of_pieces (d := 32) (by decide) rfl (hpv := rfl) (hl := rfl)) ?_
  refine dir_step (by decide) (by decide) mask256_0 mask256_5 rfl rfl
    (swap_of_select (d := 1) (e := 255) (by decide) rfl (hm := mask256_0) (hpv := rfl) (he := rfl))
    (swap_of_select (d := 1) (e := 255) (by decide) rfl (hm := mask256_0) (hpv := rfl) (he := rfl)) ?_
  refine dir_step (by decide) (by decide) mask256_1 mask256_5 rfl rfl
    (swap_of_select (d := 2) (e := 254) (by decide) rfl (hm := mask256_1) (hpv := rfl) (he := rfl))
    (swap_of_select (d := 2) (e := 254) (by decide) rfl (hm := mask256_1) (hpv := rfl) (he := rfl)) ?_
  refine dir_step (by decide) (by decide) mask256_2 mask256_5 rfl rfl
    (swap_of_select (d := 4) (e := 252) (by decide) rfl (hm := mask256_2) (hpv := rfl) (he := rfl))
    (swap_of_select (d := 4) (e := 252) (by decide) rfl (hm := mask256_2) (hpv := rfl) (he := rfl)) ?_
  refine dir_step (by decide) (by decide) mask256_3 mask256_5 rfl rfl
    (swap_of_pieces (d := 8) (by decide) rfl (hpv := rfl) (hl := rfl))
    (swap_of_pieces (d := 8) (by decide) rfl (hpv := rfl) (hl := rfl)) ?_
  refine dir_step (by decide) (by decide) mask256_4 mask256_5 rfl rfl
    (swap_of_pieces (d := 16) (by decide) rfl (hpv := rfl) (hl := rfl))
    (swap_of_pieces (d := 16) (by decide) rfl (hpv := rfl) (hl := rfl)) ?_
  refine dir_step (by decide) (by decide) mask256_0 mask256_4 rfl rfl
    (swap_of_select (d := 1) (e := 255) (by decide) rfl (hm := mask256_0) (hpv := rfl) (he := rfl))
    (swap_of_select (d := 1) (e := 255) (by decide) rfl (hm := mask256_0) (hpv := rfl) (he := rfl)) ?_
  refine dir_step (by decide) (by decide) mask256_1 mask256_4 rfl rfl
    (swap_of_select (d := 2) (e := 254) (by decide) rfl (hm := mask256_1) (hpv := rfl) (he := rfl))
    (swap_of_select (d := 2) (e := 254) (by decide) rfl (hm := mask256_1) (hpv := rfl) (he := rfl)) ?_
  refine dir_step (by decide) (by decide) mask256_2 mask256_4 rfl rfl
    (swap_of_select (d := 4) (e := 252) (by decide) rfl (hm := mask256_2) (hpv := rfl) (he := rfl))
    (swap_of_select (d := 4) (e := 252) (by decide) rfl (hm := mask256_2) (hpv := rfl) (he := rfl)) ?_
  refine dir_step (by decide) (by decide) mask256_3 mask256_4 rfl rfl
    (swap_of_pieces (d := 8) (by decide) rfl (hpv := rfl) (hl := rfl))
    (swap_of_pieces (d := 8) (by decide) rfl (hpv := rfl) (hl := rfl)) ?_
  refine dir_step (by decide) (by decide) mask256_0 mask256_3 rfl rfl
    (swap_of_select (d := 1) (e := 255) (by decide) rfl (hm := mask256_0) (hpv := rfl) (he := rfl))
    (swap_of_select (d := 1) (e := 255) (by decide) rfl (hm := mask256_0) (hpv := rfl) (he := rfl)) ?_
  refine dir_step (by decide) (by decide) mask256_1 mask256_3 rfl rfl
    (swap_of_select (d := 2) (e := 254) (by decide) rfl (hm := mask256_1) (hpv := rfl) (he := rfl))
    (swap_of_select (d := 2) (e := 254) (by decide) rfl (hm := mask256_1) (hpv := rfl) (he := rfl)) ?_
  refine dir_step (by decide) (by decide) mask256_2 mask256_3 rfl rfl
    (swap_of_select (d := 4) (e := 252) (by decide) rfl (hm := mask256_2) (hpv := rfl) (he := rfl))
    (swap_of_select (d := 4) (e := 252) (by decide) rfl (hm := mask256_2) (hpv := rfl) (he := rfl)) ?_
  refine dir_step (by decide) (by decide) mask256_0 mask256_2 rfl rfl
    (swap_of_select (d := 1) (e := 255) (by decide) rfl (hm := mask256_0) (hpv := rfl) (he := rfl))
    (swap_of_select (d := 1) (e := 255) (by decide) rfl (hm := mask256_0) (hpv := rfl) (he := rfl)) ?_
  refine dir_step (by decide) (by decide) mask256_1 mask256_2 rfl rfl
    (swap_of_select (d := 2) (e := 254) (by decide) rfl (hm := mask256_1) (hpv := rfl) (he := rfl))
    (swap_of_select (d := 2) (e := 254) (by decide) rfl (hm := mask256_1) (hpv := rfl) (he := rfl)) ?_
  refine dir_step (by decide) (by decide) mask256_0 mask256_1 rfl rfl
    (swap_of_select (d := 1) (e := 255) (by decide) rfl (hm := mask256_0) (hpv := rfl) (he := rfl))
    (swap_of_select (d := 1) (e := 255) (by decide) rfl (hm := mask256_0) (hpv := rfl) (he := rfl)) ?_
  rfl

end Cert.Sparse
-- ==== Proof.Fold.lean ====
/-
  What the sorting stages and the folds by maxima leave: the 64 greatest entries, in descending order.

  * `lane_top`: 256 entries sorted by blocks of 64, folded twice by maxima with a bitonic merge after each fold, leave the 64
    greatest of them.
  * `Holds`: every lane holds, in descending order, the 64 greatest entries of a list, and the lists of all lanes are the given
    entries. `Holds.fold`: folding the second half of the lanes into the first, row-reversed, keeps it.
-/
module

public import proofs.«01_k».proof.Proof.Stage
public import Idealize.ShloMosaic.Lib.SortNet.TopList
public import Idealize.ShloMosaic.Lib.SortNet.Fold
public import Idealize.ShloMosaic.Lib.SortNet.Ascending

@[expose] public section

namespace Cert.Sparse

open Idealize.ShloMosaic Idealize.ShloMosaic.Pointwise Idealize.ShloMosaic.SortNet

section algebra

variable {α : Type} [LinearOrder α]

/-- Two blocks of 64 make a list of 128, in order. -/
theorem ofFn_two (f : Fin (2 ^ 7) → α) (h : 6 ≤ 7) :
    List.ofFn f = List.ofFn (fun j => f (chunkPos h ⟨0, by decide⟩ j)) ++ List.ofFn (fun j => f (chunkPos h ⟨1, by decide⟩ j)) := by
  have e := List.ofFn_add (m := 64) (n := 64) (f := f)
  refine e.trans (congrArg₂ _ (congrArg List.ofFn (funext fun j => congrArg f (Fin.ext ?_)))
    (congrArg List.ofFn (funext fun j => congrArg f (Fin.ext ?_))))
  · show j.val = 0 * 64 + j.val; omega
  · show 64 + j.val = 1 * 64 + j.val; omega

/-- Four blocks of 64 make a list of 256, in order. -/
theorem ofFn_four (f : Fin (2 ^ 8) → α) (h : 6 ≤ 8) :
    List.ofFn f = (List.ofFn (fun j => f (chunkPos h ⟨0, by decide⟩ j)) ++ List.ofFn (fun j => f (chunkPos h ⟨1, by decide⟩ j)))
      ++ (List.ofFn (fun j => f (chunkPos h ⟨2, by decide⟩ j)) ++ List.ofFn (fun j => f (chunkPos h ⟨3, by decide⟩ j))) := by
  have e := List.ofFn_add (m := 128) (n := 128) (f := f)
  refine e.trans (congrArg₂ _ ((ofFn_two _ (by decide)).trans ?_) ((ofFn_two _ (by decide)).trans ?_))
  · refine congrArg₂ _ (congrArg List.ofFn (funext fun j => congrArg f (Fin.ext ?_)))
      (congrArg List.ofFn (funext fun j => congrArg f (Fin.ext ?_)))
    · show 0 * 64 + j.val = 0 * 64 + j.val; rfl
    · show 1 * 64 + j.val = 1 * 64 + j.val; rfl
  · refine congrArg₂ _ (congrArg List.ofFn (funext fun j => congrArg f (Fin.ext ?_)))
      (congrArg List.ofFn (funext fun j => congrArg f (Fin.ext ?_)))
    · show 128 + (0 * 64 + j.val) = 2 * 64 + j.val; omega
    · show 128 + (1 * 64 + j.val) = 3 * 64 + j.val; omega

/-- A network's result, as a list, is a rearrangement of its entries. -/
theorem ofFn_apply_perm {n : Nat} (N : Network n) (v : Fin n → α) : (List.ofFn (Network.apply N v)).Perm (List.ofFn v) := by
  obtain ⟨σ, hσ⟩ := Network.exists_perm N v
  rw [hσ]
  exact Equiv.Perm.ofFn_comp_perm σ v

/-- One lane through the first two phases. -/
theorem lane_top {K0 K1 : Fin (2 ^ 8) → α} {Z Z' : Fin (2 ^ 7) → α} {Y Y' : Fin (2 ^ 6) → α} (h8 : 6 ≤ 8) (h7 : 6 ≤ 7)
    (hK : K1 = Network.apply (levelsNet 8 true 6) K0)
    (hZ₀ : ∀ j, Z (chunkPos h7 ⟨0, by decide⟩ j) = max (K1 (chunkPos h8 ⟨0, by decide⟩ j)) (K1 (chunkPos h8 ⟨1, by decide⟩ j)))
    (hZ₁ : ∀ j, Z (chunkPos h7 ⟨1, by decide⟩ j) = max (K1 (chunkPos h8 ⟨2, by decide⟩ j)) (K1 (chunkPos h8 ⟨3, by decide⟩ j)))
    (hZ' : Z' = Network.apply (levelNet 7 true 5) Z)
    (hY : ∀ j, Y j = max (Z' (chunkPos h7 ⟨0, by decide⟩ j)) (Z' (chunkPos h7 ⟨1, by decide⟩ j)))
    (hY' : Y' = Network.apply (mergeDescNet 6) Y) :
    Antitone Y' ∧ List.ofFn Y' = topList (2 ^ 6) (List.ofFn K0) := by
  have c0 := (sortNet_levels 8 true K0 6 h8 ⟨0, by decide⟩).1 (by decide)
  have c1 := (sortNet_levels 8 true K0 6 h8 ⟨1, by decide⟩).2 (by decide)
  have c2 := (sortNet_levels 8 true K0 6 h8 ⟨2, by decide⟩).1 (by decide)
  have c3 := (sortNet_levels 8 true K0 6 h8 ⟨3, by decide⟩).2 (by decide)
  rw [← hK] at c0 c1 c2 c3
  have f0 := foldStep 6 _ _ c0 c1
  have f1 := foldStep 6 _ _ c2 c3
  have z0 : (fun j => Z' (chunkPos h7 ⟨0, by decide⟩ j))
      = Network.apply (mergeDescNet 6) fun j => max (K1 (chunkPos h8 ⟨0, by decide⟩ j)) (K1 (chunkPos h8 ⟨1, by decide⟩ j)) := by
    funext j
    rw [hZ', apply_levelNet_chunkPos h7 true Z ⟨0, by decide⟩ j, if_pos (by decide), funext hZ₀]
  have z1 : (fun j => Z' (chunkPos h7 ⟨1, by decide⟩ j))
      = Network.apply (mergeAscNet 6) fun j => max (K1 (chunkPos h8 ⟨2, by decide⟩ j)) (K1 (chunkPos h8 ⟨3, by decide⟩ j)) := by
    funext j
    rw [hZ', apply_levelNet_chunkPos h7 true Z ⟨1, by decide⟩ j, if_neg (by decide), funext hZ₁]
  have m1 := mergeAscNet_apply_monotone 6 _ (descAsc_max _ _ c2 c3)
  have p1 := ofFn_apply_perm (mergeAscNet 6) fun j => max (K1 (chunkPos h8 ⟨2, by decide⟩ j)) (K1 (chunkPos h8 ⟨3, by decide⟩ j))
  have p1' := ofFn_apply_perm (mergeDescNet 6) fun j => max (K1 (chunkPos h8 ⟨2, by decide⟩ j)) (K1 (chunkPos h8 ⟨3, by decide⟩ j))
  have f2 := foldStep 6 _ _ f0.1 m1
  rw [hY', show Y = _ from funext hY]
  have e : (fun j => max (Z' (chunkPos h7 ⟨0, by decide⟩ j)) (Z' (chunkPos h7 ⟨1, by decide⟩ j)))
      = fun j => max (Network.apply (mergeDescNet 6) (fun j => max (K1 (chunkPos h8 ⟨0, by decide⟩ j)) (K1 (chunkPos h8 ⟨1, by decide⟩ j))) j)
        (Network.apply (mergeAscNet 6) (fun j => max (K1 (chunkPos h8 ⟨2, by decide⟩ j)) (K1 (chunkPos h8 ⟨3, by decide⟩ j))) j) :=
    funext fun j => congrArg₂ max (congrFun z0 j) (congrFun z1 j)
  rw [e]
  refine ⟨f2.1, f2.2.trans ?_⟩
  rw [topList_perm (List.Perm.append_left _ (p1.trans p1'.symm)), f0.2, f1.2, topList_append_topList_topList, ← ofFn_four K1 h8, hK]
  exact topList_perm (ofFn_apply_perm _ _)

/-- Every lane holds the 64 greatest entries of its list, in descending order; the lists together are `A`. -/
def Holds (A : Multiset α) {W : Nat} (Y : Fin W → Fin (2 ^ 6) → α) : Prop :=
  ∃ L : Fin W → List α, (∀ c, Antitone (Y c) ∧ List.ofFn (Y c) = topList (2 ^ 6) (L c)) ∧ ∑ c, (L c : Multiset α) = A

theorem ofFn_rev_perm {n : Nat} (v : Fin n → α) : (List.ofFn fun j => v (Fin.rev j)).Perm (List.ofFn v) :=
  Equiv.Perm.ofFn_comp_perm Fin.revPerm v

/-- Folding the second half of the lanes into the first. -/
theorem Holds.fold {A : Multiset α} {W W' : Nat} {Y : Fin W → Fin (2 ^ 6) → α} {Y' : Fin W' → Fin (2 ^ 6) → α} (h : Holds A Y)
    (hW : W = W' + W')
    (hY : ∀ c : Fin W', Y' c = Network.apply (mergeDescNet 6) fun j =>
      max (Y ((Fin.castAdd W' c).cast hW.symm) j) (Y ((Fin.natAdd W' c).cast hW.symm) (Fin.rev j))) : Holds A Y' := by
  subst hW
  obtain ⟨L, hL, hA⟩ := h
  refine ⟨fun c => L (Fin.castAdd W' c) ++ L (Fin.natAdd W' c), fun c => ?_, ?_⟩
  · have a := hL (Fin.castAdd W' c)
    have b := hL (Fin.natAdd W' c)
    have m : Monotone fun j => Y (Fin.natAdd W' c) (Fin.rev j) := fun i j hij => b.1 (Fin.rev_le_rev.mpr hij)
    have f := foldStep 6 _ _ a.1 m
    rw [hY c]
    refine ⟨f.1, f.2.trans ?_⟩
    rw [topList_perm (List.Perm.append_left _ (ofFn_rev_perm (Y (Fin.natAdd W' c)))), a.2, b.2, topList_append_topList_topList]
  · rw [← hA, Fin.sum_univ_add, ← Finset.sum_add_distrib]
    rfl

/-- At one lane, the 64 greatest entries of all. -/
theorem Holds.last {l : List α} {Y : Fin 1 → Fin (2 ^ 6) → α} (h : Holds (l : Multiset α) Y) : List.ofFn (Y 0) = topList (2 ^ 6) l := by
  obtain ⟨L, hL, hA⟩ := h
  rw [Fin.sum_univ_one] at hA
  rw [(hL 0).2]
  exact topList_perm (Multiset.coe_eq_coe.mp hA)

end algebra

/-! ## The vectors of the folds -/

variable {n W P n' W' P' : Nat}

theorem colKey_max {hn : 2 ^ P = n} {a b y : FVec Ideal (⟨2, ![n, W]⟩ : Shape) .f32} {i j yi : IVec (⟨2, ![n, W]⟩ : Shape) 32}
    (hy : y = select (gtMask a b i j) a b) (hyi : yi = select (gtMask a b i j) i j) (c : Fin W) (r : Fin (2 ^ P)) :
    colKey hn y yi c r = max (colKey hn a i c r) (colKey hn b j c r) := by
  subst hy hyi
  exact max_step _

theorem colKey_slice {hn : 2 ^ P = n} {hn' : 2 ^ P' = n'} {v : FVec Ideal (⟨2, ![n, W]⟩ : Shape) .f32}
    {i : IVec (⟨2, ![n, W]⟩ : Shape) 32} {a : FVec Ideal (⟨2, ![n', W']⟩ : Shape) .f32} {ai : IVec (⟨2, ![n', W']⟩ : Shape) 32} {o o' : Nat}
    (h : Shape.Slices (⟨2, ![n, W]⟩ : Shape) ![o, o'] ⟨2, ![n', W']⟩ := by decide)
    (ha : a = extractStridedSlice ⟨2, ![n', W']⟩ ![o, o'] v h) (hai : ai = extractStridedSlice ⟨2, ![n', W']⟩ ![o, o'] i h)
    {c : Fin W'} {r : Fin (2 ^ P')} {c₂ : Fin W} {r₂ : Fin (2 ^ P)} (hr : r₂.val = o + r.val) (hc : c₂.val = o' + c.val) :
    colKey hn' a ai c r = colKey hn v i c₂ r₂ := by
  subst ha hai
  unfold colKey
  have e : ∀ b : Fin 2, ((ix2 (r₂.cast hn) c₂ : (⟨2, ![n, W]⟩ : Shape).Idx) b).val
      = (![o, o'] : Fin 2 → Nat) b + ((ix2 (r.cast hn') c : (⟨2, ![n', W']⟩ : Shape).Idx) b).val := fun b => by
    match b with
    | ⟨0, _⟩ => exact hr
    | ⟨1, _⟩ => exact hc
  rw [extractStridedSlice_apply _ _ _ _ (ix2 (r₂.cast hn) c₂) e, extractStridedSlice_apply _ _ _ _ (ix2 (r₂.cast hn) c₂) e]

/-- The first of two vectors, one below the other. -/
theorem colKey_concat_fst {hn : 2 ^ P = n} {hn' : 2 ^ P' = n'} {a b : FVec Ideal (⟨2, ![n', W]⟩ : Shape) .f32}
    {i j : IVec (⟨2, ![n', W]⟩ : Shape) 32} {z : FVec Ideal (⟨2, ![n, W]⟩ : Shape) .f32} {zi : IVec (⟨2, ![n, W]⟩ : Shape) 32}
    (h : Shape.Concatenates [(⟨2, ![n', W]⟩ : Shape), ⟨2, ![n', W]⟩] ⟨2, ![n, W]⟩ 0 := by decide)
    (hz : z = concatenate ⟨2, ![n, W]⟩ 0 [⟨⟨2, ![n', W]⟩, a⟩, ⟨⟨2, ![n', W]⟩, b⟩] h)
    (hzi : zi = concatenate ⟨2, ![n, W]⟩ 0 [⟨⟨2, ![n', W]⟩, i⟩, ⟨⟨2, ![n', W]⟩, j⟩] h)
    {c : Fin W} {r : Fin (2 ^ P')} {r₂ : Fin (2 ^ P)} (hr : r₂.val = r.val) : colKey hn z zi c r₂ = colKey hn' a i c r := by
  subst hz hzi
  unfold colKey
  rw [concatenate_apply_piece (t := ⟨2, ![n, W]⟩) 0 [⟨⟨2, ![n', W]⟩, a⟩, ⟨⟨2, ![n', W]⟩, b⟩] h (ix2 (r₂.cast hn) c) 0 (by simp)
      ⟨2, ![n', W]⟩ _ rfl rfl 0 (by simp) (ix2 (r.cast hn') c)
      (fun b hb => by
        match b with
        | ⟨0, _⟩ => exact absurd rfl hb
        | ⟨1, _⟩ => rfl)
      (by show 0 + r.val = r₂.val; omega),
    concatenate_apply_piece (t := ⟨2, ![n, W]⟩) 0 [⟨⟨2, ![n', W]⟩, i⟩, ⟨⟨2, ![n', W]⟩, j⟩] h (ix2 (r₂.cast hn) c) 0 (by simp)
      ⟨2, ![n', W]⟩ _ rfl rfl 0 (by simp) (ix2 (r.cast hn') c)
      (fun b hb => by
        match b with
        | ⟨0, _⟩ => exact absurd rfl hb
        | ⟨1, _⟩ => rfl)
      (by show 0 + r.val = r₂.val; omega)]

/-- The second of two vectors, one below the other. -/
theorem colKey_concat_snd {hn : 2 ^ P = n} {hn' : 2 ^ P' = n'} {a b : FVec Ideal (⟨2, ![n', W]⟩ : Shape) .f32}
    {i j : IVec (⟨2, ![n', W]⟩ : Shape) 32} {z : FVec Ideal (⟨2, ![n, W]⟩ : Shape) .f32} {zi : IVec (⟨2, ![n, W]⟩ : Shape) 32}
    (h : Shape.Concatenates [(⟨2, ![n', W]⟩ : Shape), ⟨2, ![n', W]⟩] ⟨2, ![n, W]⟩ 0 := by decide)
    (hz : z = concatenate ⟨2, ![n, W]⟩ 0 [⟨⟨2, ![n', W]⟩, a⟩, ⟨⟨2, ![n', W]⟩, b⟩] h)
    (hzi : zi = concatenate ⟨2, ![n, W]⟩ 0 [⟨⟨2, ![n', W]⟩, i⟩, ⟨⟨2, ![n', W]⟩, j⟩] h)
    {c : Fin W} {r : Fin (2 ^ P')} {r₂ : Fin (2 ^ P)} (hr : r₂.val = n' + r.val) : colKey hn z zi c r₂ = colKey hn' b j c r := by
  subst hz hzi
  unfold colKey
  rw [concatenate_apply_piece (t := ⟨2, ![n, W]⟩) 0 [⟨⟨2, ![n', W]⟩, a⟩, ⟨⟨2, ![n', W]⟩, b⟩] h (ix2 (r₂.cast hn) c) 1 (by simp)
      ⟨2, ![n', W]⟩ _ rfl rfl n' (by simp) (ix2 (r.cast hn') c)
      (fun b hb => by
        match b with
        | ⟨0, _⟩ => exact absurd rfl hb
        | ⟨1, _⟩ => rfl)
      (by show n' + r.val = r₂.val; omega),
    concatenate_apply_piece (t := ⟨2, ![n, W]⟩) 0 [⟨⟨2, ![n', W]⟩, i⟩, ⟨⟨2, ![n', W]⟩, j⟩] h (ix2 (r₂.cast hn) c) 1 (by simp)
      ⟨2, ![n', W]⟩ _ rfl rfl n' (by simp) (ix2 (r.cast hn') c)
      (fun b hb => by
        match b with
        | ⟨0, _⟩ => exact absurd rfl hb
        | ⟨1, _⟩ => rfl)
      (by show n' + r.val = r₂.val; omega)]

/-- 64 rows are `2 ^ 6` rows. -/
theorem rows64 : 2 ^ 6 = 64 := rfl

/-- Exchanges at all six distances turn the 64 rows around. -/
theorem partner_all : ∀ r : Fin (2 ^ 6),
    partner 6 5 (partner 6 4 (partner 6 3 (partner 6 2 (partner 6 1 (partner 6 0 r))))) = Fin.rev r := by
  decide

theorem reversed_of_swaps {α : Type} {b b₁ b₂ b₃ b₄ b₅ b₆ : (⟨2, ![64, W]⟩ : Shape).Idx → α} (h₀ : Swap rows64 0 b₅ b₆)
    (h₁ : Swap rows64 1 b₄ b₅) (h₂ : Swap rows64 2 b₃ b₄) (h₃ : Swap rows64 3 b₂ b₃) (h₄ : Swap rows64 4 b₁ b₂) (h₅ : Swap rows64 5 b b₁)
    (r : Fin (2 ^ 6)) (c : Fin W) : b₆ (ix2 (r.cast rows64) c) = b (ix2 ((Fin.rev r).cast rows64) c) := by
  rw [h₀ r c, h₁ _ c, h₂ _ c, h₃ _ c, h₄ _ c, h₅ _ c, partner_all]

/-- The six stages of a merge, as the list of them. -/
theorem netOf_merge : netOf 6 [(0, none), (1, none), (2, none), (3, none), (4, none), (5, none)] = mergeDescNet 6 := by
  simp only [netOf, mergeDescNet, List.range_succ, List.range_zero, List.nil_append, List.reverse_append, List.reverse_cons,
    List.reverse_nil, List.cons_append, List.flatMap_cons, List.flatMap_nil, List.append_nil, List.append_assoc]
  rfl

/-- One printed fold of the lanes: the second half of them row-reversed, the maxima with the first half, then a merge. -/
theorem Holds.level {A : Multiset Key} {W W' : Nat} {v : FVec Ideal (⟨2, ![64, W]⟩ : Shape) .f32} {i : IVec (⟨2, ![64, W]⟩ : Shape) 32}
    {a b₀ b y v' : FVec Ideal (⟨2, ![64, W']⟩ : Shape) .f32} {ai bi₀ bi yi i' : IVec (⟨2, ![64, W']⟩ : Shape) 32}
    (hm : ∀ c, colKey rows64 v' i' c
      = Network.apply (netOf 6 [(0, none), (1, none), (2, none), (3, none), (4, none), (5, none)]) (colKey rows64 y yi c))
    (hy : y = select (gtMask a b ai bi) a b) (hyi : yi = select (gtMask a b ai bi) ai bi)
    (hb : ∀ (r : Fin (2 ^ 6)) (c : Fin W'), b (ix2 (r.cast rows64) c) = b₀ (ix2 ((Fin.rev r).cast rows64) c))
    (hbi : ∀ (r : Fin (2 ^ 6)) (c : Fin W'), bi (ix2 (r.cast rows64) c) = bi₀ (ix2 ((Fin.rev r).cast rows64) c))
    (hs₀ : Shape.Slices (⟨2, ![64, W]⟩ : Shape) ![0, 0] ⟨2, ![64, W']⟩)
    (ha : a = extractStridedSlice ⟨2, ![64, W']⟩ ![0, 0] v hs₀) (hai : ai = extractStridedSlice ⟨2, ![64, W']⟩ ![0, 0] i hs₀)
    (hs₁ : Shape.Slices (⟨2, ![64, W]⟩ : Shape) ![0, W'] ⟨2, ![64, W']⟩)
    (hb₀ : b₀ = extractStridedSlice ⟨2, ![64, W']⟩ ![0, W'] v hs₁) (hbi₀ : bi₀ = extractStridedSlice ⟨2, ![64, W']⟩ ![0, W'] i hs₁)
    (hW : W = W' + W') (h : Holds A (colKey rows64 v i)) : Holds A (colKey rows64 v' i') := by
  refine h.fold hW fun c => ?_
  rw [hm c, netOf_merge]
  congr 1
  funext j
  rw [colKey_max hy hyi]
  congr 1
  · refine colKey_slice hs₀ ha hai ?_ ?_
    · show j.val = 0 + j.val; omega
    · show c.val = 0 + c.val; omega
  · have e : colKey rows64 b bi c j = colKey rows64 b₀ bi₀ c (Fin.rev j) := by
      unfold colKey
      rw [hb, hbi]
    rw [e]
    refine colKey_slice hs₁ hb₀ hbi₀ ?_ ?_
    · show (Fin.rev j).val = 0 + (Fin.rev j).val; omega
    · rfl

/-- The stages of the first six levels on 256 rows, as the list of them. -/
theorem netOf_levels :
    netOf 8 [(0, some 5), (1, some 5), (2, some 5), (3, some 5), (4, some 5), (5, some 5), (0, some 4), (1, some 4), (2, some 4), (3, some 4),
      (4, some 4), (0, some 3), (1, some 3), (2, some 3), (3, some 3), (0, some 2), (1, some 2), (2, some 2), (0, some 1), (1, some 1),
      (0, some 0)] = levelsNet 8 true 6 := by
  simp only [netOf, levelsNet, levelNet, List.range_succ, List.range_zero, List.nil_append, List.reverse_append, List.reverse_cons,
    List.reverse_nil, List.cons_append, List.flatMap_cons, List.flatMap_nil, List.flatMap_append, List.append_nil, List.append_assoc]
  rfl

/-- The stages of level 5 on 128 rows. -/
theorem netOf_level :
    netOf 7 [(0, some 5), (1, some 5), (2, some 5), (3, some 5), (4, some 5), (5, some 5)] = levelNet 7 true 5 := by
  simp only [netOf, levelNet, List.range_succ, List.range_zero, List.nil_append, List.reverse_append, List.reverse_cons,
    List.reverse_nil, List.cons_append, List.flatMap_cons, List.flatMap_nil, List.append_nil, List.append_assoc]
  rfl

/-- The first two phases on one lane, from the printed vectors. -/
theorem lane_two_folds {l : Fin W} {K0 : Fin (2 ^ 8) → Key}
    {hn₈ : 2 ^ 8 = 256} {hn₇ : 2 ^ 7 = 128} {v : FVec Ideal (⟨2, ![256, W]⟩ : Shape) .f32} {i : IVec (⟨2, ![256, W]⟩ : Shape) 32}
    {z z' : FVec Ideal (⟨2, ![128, W]⟩ : Shape) .f32} {zi zi' : IVec (⟨2, ![128, W]⟩ : Shape) 32}
    {b₀ b₁ b₂ b₃ y₀ y₁ a₀ a₁ y y' : FVec Ideal (⟨2, ![64, W]⟩ : Shape) .f32}
    {bi₀ bi₁ bi₂ bi₃ yi₀ yi₁ ai₀ ai₁ yi yi' : IVec (⟨2, ![64, W]⟩ : Shape) 32}
    (hs₀ : Shape.Slices (⟨2, ![256, W]⟩ : Shape) ![0, 0] ⟨2, ![64, W]⟩ := by decide)
    (hs₁ : Shape.Slices (⟨2, ![256, W]⟩ : Shape) ![64, 0] ⟨2, ![64, W]⟩ := by decide)
    (hs₂ : Shape.Slices (⟨2, ![256, W]⟩ : Shape) ![128, 0] ⟨2, ![64, W]⟩ := by decide)
    (hs₃ : Shape.Slices (⟨2, ![256, W]⟩ : Shape) ![192, 0] ⟨2, ![64, W]⟩ := by decide)
    (ht₀ : Shape.Slices (⟨2, ![128, W]⟩ : Shape) ![0, 0] ⟨2, ![64, W]⟩ := by decide)
    (ht₁ : Shape.Slices (⟨2, ![128, W]⟩ : Shape) ![64, 0] ⟨2, ![64, W]⟩ := by decide)
    (hcat : Shape.Concatenates [(⟨2, ![64, W]⟩ : Shape), ⟨2, ![64, W]⟩] ⟨2, ![128, W]⟩ 0 := by decide)
    (hmerge : colKey rows64 y' yi' l
      = Network.apply (netOf 6 [(0, none), (1, none), (2, none), (3, none), (4, none), (5, none)]) (colKey rows64 y yi l))
    (hmax : y = select (gtMask a₀ a₁ ai₀ ai₁) a₀ a₁) (hmaxI : yi = select (gtMask a₀ a₁ ai₀ ai₁) ai₀ ai₁)
    (ha₀ : a₀ = extractStridedSlice ⟨2, ![64, W]⟩ ![0, 0] z' ht₀) (hai₀ : ai₀ = extractStridedSlice ⟨2, ![64, W]⟩ ![0, 0] zi' ht₀)
    (ha₁ : a₁ = extractStridedSlice ⟨2, ![64, W]⟩ ![64, 0] z' ht₁) (hai₁ : ai₁ = extractStridedSlice ⟨2, ![64, W]⟩ ![64, 0] zi' ht₁)
    (hnet : colKey hn₇ z' zi' l
      = Network.apply (netOf 7 [(0, some 5), (1, some 5), (2, some 5), (3, some 5), (4, some 5), (5, some 5)]) (colKey hn₇ z zi l))
    (hz : z = concatenate ⟨2, ![128, W]⟩ 0 [⟨⟨2, ![64, W]⟩, y₀⟩, ⟨⟨2, ![64, W]⟩, y₁⟩] hcat)
    (hzi : zi = concatenate ⟨2, ![128, W]⟩ 0 [⟨⟨2, ![64, W]⟩, yi₀⟩, ⟨⟨2, ![64, W]⟩, yi₁⟩] hcat)
    (hy₀ : y₀ = select (gtMask b₀ b₁ bi₀ bi₁) b₀ b₁) (hyi₀ : yi₀ = select (gtMask b₀ b₁ bi₀ bi₁) bi₀ bi₁)
    (hy₁ : y₁ = select (gtMask b₂ b₃ bi₂ bi₃) b₂ b₃) (hyi₁ : yi₁ = select (gtMask b₂ b₃ bi₂ bi₃) bi₂ bi₃)
    (hb₀ : b₀ = extractStridedSlice ⟨2, ![64, W]⟩ ![0, 0] v hs₀) (hbi₀ : bi₀ = extractStridedSlice ⟨2, ![64, W]⟩ ![0, 0] i hs₀)
    (hb₁ : b₁ = extractStridedSlice ⟨2, ![64, W]⟩ ![64, 0] v hs₁) (hbi₁ : bi₁ = extractStridedSlice ⟨2, ![64, W]⟩ ![64, 0] i hs₁)
    (hb₂ : b₂ = extractStridedSlice ⟨2, ![64, W]⟩ ![128, 0] v hs₂) (hbi₂ : bi₂ = extractStridedSlice ⟨2, ![64, W]⟩ ![128, 0] i hs₂)
    (hb₃ : b₃ = extractStridedSlice ⟨2, ![64, W]⟩ ![192, 0] v hs₃) (hbi₃ : bi₃ = extractStridedSlice ⟨2, ![64, W]⟩ ![192, 0] i hs₃)
    (hsort : colKey hn₈ v i l = Network.apply (netOf 8 [(0, some 5), (1, some 5), (2, some 5), (3, some 5), (4, some 5), (5, some 5),
      (0, some 4), (1, some 4), (2, some 4), (3, some 4), (4, some 4), (0, some 3), (1, some 3), (2, some 3), (3, some 3), (0, some 2),
      (1, some 2), (2, some 2), (0, some 1), (1, some 1), (0, some 0)]) K0) :
    Antitone (colKey rows64 y' yi' l) ∧ List.ofFn (colKey rows64 y' yi' l) = topList (2 ^ 6) (List.ofFn K0) := by
  rw [netOf_levels] at hsort
  rw [netOf_level] at hnet
  rw [netOf_merge] at hmerge
  have h8 : 6 ≤ 8 := by decide
  have h7 : 6 ≤ 7 := by decide
  refine lane_top h8 h7 hsort (fun j => ?_) (fun j => ?_) hnet (fun j => ?_) hmerge
  · rw [colKey_concat_fst (hn' := rows64) hcat hz hzi (r := j) (by show 0 * 64 + j.val = j.val; omega), colKey_max hy₀ hyi₀,
      colKey_slice hs₀ hb₀ hbi₀ (r₂ := chunkPos h8 ⟨0, by decide⟩ j) (c₂ := l) (by show 0 * 64 + j.val = 0 + j.val; omega)
        (by omega),
      colKey_slice hs₁ hb₁ hbi₁ (r₂ := chunkPos h8 ⟨1, by decide⟩ j) (c₂ := l) (by show 1 * 64 + j.val = 64 + j.val; omega)
        (by omega)]
  · rw [colKey_concat_snd (hn' := rows64) hcat hz hzi (r := j) (by show 1 * 64 + j.val = 64 + j.val; omega), colKey_max hy₁ hyi₁,
      colKey_slice hs₂ hb₂ hbi₂ (r₂ := chunkPos h8 ⟨2, by decide⟩ j) (c₂ := l) (by show 2 * 64 + j.val = 128 + j.val; omega)
        (by omega),
      colKey_slice hs₃ hb₃ hbi₃ (r₂ := chunkPos h8 ⟨3, by decide⟩ j) (c₂ := l) (by show 3 * 64 + j.val = 192 + j.val; omega)
        (by omega)]
  · rw [colKey_max hmax hmaxI,
      colKey_slice ht₀ ha₀ hai₀ (r₂ := chunkPos h7 ⟨0, by decide⟩ j) (c₂ := l) (by show 0 * 64 + j.val = 0 + j.val; omega)
        (by omega),
      colKey_slice ht₁ ha₁ hai₁ (r₂ := chunkPos h7 ⟨1, by decide⟩ j) (c₂ := l) (by show 1 * 64 + j.val = 64 + j.val; omega)
        (by omega)]

end Cert.Sparse
-- ==== Proof.Phase2.lean ====
/-
  Phase 2 of the kernel: the blocks of 64 rows are folded by maxima, two into one and then again, with a bitonic merge after each
  fold. Every lane is left with its 64 greatest entries in descending order (`phase2_holds`).
-/
module

public import proofs.«01_k».proof.Proof.Phase1
public import proofs.«01_k».proof.Proof.Fold

@[expose] public section

namespace Cert.Sparse

open Idealize.ShloMosaic Idealize.ShloMosaic.TcCoe Idealize.ShloMosaic.SortNet Cert.KernelIdeal Cert.KernelIdeal.Gen

/-- 128 rows are `2 ^ 7` rows. -/
theorem rows128 : 2 ^ 7 = 128 := rfl

/-- The first 128 rows of a mask. -/
noncomputable abbrev half (m : IVec S256x128 1) : IVec S128x128 1 := extractStridedSlice ⟨2, ![128, 128]⟩ ![0, 0] m (by decide)

/-- The first 64 rows of a mask. -/
noncomputable abbrev quarter (m : IVec S256x128 1) : IVec S64x128 1 := extractStridedSlice ⟨2, ![64, 128]⟩ ![0, 0] m (by decide)

theorem mask128_0 : Rows (P := 7) rows128 (half k0_pay3) (bitClear 0) := Rows.slice _ rfl (by decide) (by decide) mask256_0

theorem mask128_1 : Rows (P := 7) rows128 (half k0_pay4) (bitClear 1) := Rows.slice _ rfl (by decide) (by decide) mask256_1

theorem mask128_2 : Rows (P := 7) rows128 (half k0_pay5) (bitClear 2) := Rows.slice _ rfl (by decide) (by decide) mask256_2

theorem mask128_3 : Rows (P := 7) rows128 (half k0_pay6) (bitClear 3) := Rows.slice _ rfl (by decide) (by decide) mask256_3

theorem mask128_4 : Rows (P := 7) rows128 (half k0_pay7) (bitClear 4) := Rows.slice _ rfl (by decide) (by decide) mask256_4

theorem mask128_5 : Rows (P := 7) rows128 (half k0_pay8) (bitClear 5) := Rows.slice _ rfl (by decide) (by decide) mask256_5

theorem mask128_6 : Rows (P := 7) rows128 (half k0_pay9) (bitClear 6) := Rows.slice _ rfl (by decide) (by decide) mask256_6

theorem mask64_0 : Rows (P := 6) rows64 (quarter k0_pay3) (bitClear 0) := Rows.slice _ rfl (by decide) (by decide) mask256_0

theorem mask64_1 : Rows (P := 6) rows64 (quarter k0_pay4) (bitClear 1) := Rows.slice _ rfl (by decide) (by decide) mask256_1

theorem mask64_2 : Rows (P := 6) rows64 (quarter k0_pay5) (bitClear 2) := Rows.slice _ rfl (by decide) (by decide) mask256_2

theorem mask64_3 : Rows (P := 6) rows64 (quarter k0_pay6) (bitClear 3) := Rows.slice _ rfl (by decide) (by decide) mask256_3

theorem mask64_4 : Rows (P := 6) rows64 (quarter k0_pay7) (bitClear 4) := Rows.slice _ rfl (by decide) (by decide) mask256_4

theorem mask64_5 : Rows (P := 6) rows64 (quarter k0_pay8) (bitClear 5) := Rows.slice _ rfl (by decide) (by decide) mask256_5

variable (c : Dev nD) (arg0 : Memref sig .tc .vmem S256x128 .f32) (harg0 : arg0.IsWhole) (x0 : Vec Ideal S256x128 .f32)

/-- After phase 2 a lane holds its 64 greatest entries, in descending order. -/
theorem phase2_holds (l : Fin 128) :
    Antitone (colKey rows64 (kernelRun0_A.sl.r_159 (F := Ideal) c arg0 harg0 x0) (kernelRun0_A.sl.r_160 (F := Ideal) c arg0 harg0 x0) l)
      ∧ List.ofFn (colKey rows64 (kernelRun0_A.sl.r_159 (F := Ideal) c arg0 harg0 x0) (kernelRun0_A.sl.r_160 (F := Ideal) c arg0 harg0 x0) l)
        = topList (2 ^ 6) (List.ofFn (colKey rows256 (kernelRun0_A.sl.r (F := Ideal) c arg0 harg0 x0) k0_pay2 l)) := by
  apply lane_two_folds (v := kernelRun0_A.sl.r_126 (F := Ideal) c arg0 harg0 x0) (i := kernelRun0_A.sl.r_127 (F := Ideal) c arg0 harg0 x0)
    (hn₈ := rows256) (hn₇ := rows128)
    (hmerge := ?merge) (hmax := ?max) (hmaxI := ?maxI) (ha₀ := ?sa) (hai₀ := ?sai) (ha₁ := ?sb) (hai₁ := ?sbi) (hnet := ?net) (hz := ?cat)
    (hzi := ?catI) (hy₀ := ?m0) (hyi₀ := ?m0i) (hy₁ := ?m1) (hyi₁ := ?m1i) (hb₀ := ?s0) (hbi₀ := ?s0i) (hb₁ := ?s1) (hbi₁ := ?s1i)
    (hb₂ := ?s2) (hbi₂ := ?s2i) (hb₃ := ?s3) (hbi₃ := ?s3i) (hsort := phase1_net c arg0 harg0 x0 l)
  case merge =>
    refine merge_step (by decide) mask64_0 rfl rfl
      (swap_of_select (d := 1) (e := 63) (by decide) rfl (hm := mask64_0) (hpv := rfl) (he := rfl))
      (swap_of_select (d := 1) (e := 63) (by decide) rfl (hm := mask64_0) (hpv := rfl) (he := rfl)) ?_
    refine merge_step (by decide) mask64_1 rfl rfl
      (swap_of_select (d := 2) (e := 62) (by decide) rfl (hm := mask64_1) (hpv := rfl) (he := rfl))
      (swap_of_select (d := 2) (e := 62) (by decide) rfl (hm := mask64_1) (hpv := rfl) (he := rfl)) ?_
    refine merge_step (by decide) mask64_2 rfl rfl
      (swap_of_select (d := 4) (e := 60) (by decide) rfl (hm := mask64_2) (hpv := rfl) (he := rfl))
      (swap_of_select (d := 4) (e := 60) (by decide) rfl (hm := mask64_2) (hpv := rfl) (he := rfl)) ?_
    refine merge_step (by decide) mask64_3 rfl rfl
      (swap_of_pieces (d := 8) (by decide) rfl (hpv := rfl) (hl := rfl))
      (swap_of_pieces (d := 8) (by decide) rfl (hpv := rfl) (hl := rfl)) ?_
    refine merge_step (by decide) mask64_4 rfl rfl
      (swap_of_pieces (d := 16) (by decide) rfl (hpv := rfl) (hl := rfl))
      (swap_of_pieces (d := 16) (by decide) rfl (hpv := rfl) (hl := rfl)) ?_
    refine merge_step (by decide) mask64_5 rfl rfl
      (swap_of_pieces (d := 32) (by decide) rfl (hpv := rfl) (hl := rfl))
      (swap_of_pieces (d := 32) (by decide) rfl (hpv := rfl) (hl := rfl)) ?_
    rfl
  case max => rfl
  case maxI => rfl
  case sa => rfl
  case sai => rfl
  case sb => rfl
  case sbi => rfl
  case net =>
    refine dir_step (by decide) (by decide) mask128_0 mask128_6 rfl rfl
      (swap_of_select (d := 1) (e := 127) (by decide) rfl (hm := mask128_0) (hpv := rfl) (he := rfl))
      (swap_of_select (d := 1) (e := 127) (by decide) rfl (hm := mask128_0) (hpv := rfl) (he := rfl)) ?_
    refine dir_step (by decide) (by decide) mask128_1 mask128_6 rfl rfl
      (swap_of_select (d := 2) (e := 126) (by decide) rfl (hm := mask128_1) (hpv := rfl) (he := rfl))
      (swap_of_select (d := 2) (e := 126) (by decide) rfl (hm := mask128_1) (hpv := rfl) (he := rfl)) ?_
    refine dir_step (by decide) (by decide) mask128_2 mask128_6 rfl rfl
      (swap_of_select (d := 4) (e := 124) (by decide) rfl (hm := mask128_2) (hpv := rfl) (he := rfl))
      (swap_of_select (d := 4) (e := 124) (by decide) rfl (hm := mask128_2) (hpv := rfl) (he := rfl)) ?_
    refine dir_step (by decide) (by decide) mask128_3 mask128_6 rfl rfl
      (swap_of_pieces (d := 8) (by decide) rfl (hpv := rfl) (hl := rfl))
      (swap_of_pieces (d := 8) (by decide) rfl (hpv := rfl) (hl := rfl)) ?_
    refine dir_step (by decide) (by decide) mask128_4 mask128_6 rfl rfl
      (swap_of_pieces (d := 16) (by decide) rfl (hpv := rfl) (hl := rfl))
      (swap_of_pieces (d := 16) (by decide) rfl (hpv := rfl) (hl := rfl)) ?_
    refine dir_step (by decide) (by decide) mask128_5 mask128_6 rfl rfl
      (swap_of_pieces (d := 32) (by decide) rfl (hpv := rfl) (hl := rfl))
      (swap_of_pieces (d := 32) (by decide) rfl (hpv := rfl) (hl := rfl)) ?_
    rfl
  case cat => rfl
  case catI => rfl
  case m0 => rfl
  case m0i => rfl
  case m1 => rfl
  case m1i => rfl
  case s0 => rfl
  case s0i => rfl
  case s1 => rfl
  case s1i => rfl
  case s2 => rfl
  case s2i => rfl
  case s3 => rfl
  case s3i => rfl

end Cert.Sparse
-- ==== Proof.Phase3.lean ====
/-
  Phase 3 of the kernel: seven folds, each of the second half of the lanes into the first, leave one lane with the 64 greatest
  entries of all lanes in descending order (`phase3_holds`).
-/
module

public import proofs.«01_k».proof.Proof.Phase2

@[expose] public section

namespace Cert.Sparse

open Idealize.ShloMosaic Idealize.ShloMosaic.TcCoe Idealize.ShloMosaic.SortNet Cert.KernelIdeal Cert.KernelIdeal.Gen

theorem row64_0 : Rows (P := 6) rows64 kernelRun0_A.sl.r_161 (bitClear 0) := rows_mask rfl (by decide) rfl

theorem row64_1 : Rows (P := 6) rows64 (k0_pay296 kernelRun0_A.sl.v1121) (bitClear 1) := rows_mask rfl (by decide) rfl

theorem row64_2 : Rows (P := 6) rows64 (k0_pay297 kernelRun0_A.sl.v1121) (bitClear 2) := rows_mask rfl (by decide) rfl

theorem row64_3 : Rows (P := 6) rows64 (k0_pay298 kernelRun0_A.sl.v1121) (bitClear 3) := rows_mask rfl (by decide) rfl

theorem row64_4 : Rows (P := 6) rows64 (k0_pay299 kernelRun0_A.sl.v1121) (bitClear 4) := rows_mask rfl (by decide) rfl

theorem row64_5 : Rows (P := 6) rows64 (k0_pay300 kernelRun0_A.sl.v1121) (bitClear 5) := rows_mask rfl (by decide) rfl

/-- The first lanes of a mask of 64 rows. -/
noncomputable abbrev lanes (W : Nat) (m : IVec S64x128 1) (h : Shape.Slices S64x128 ![0, 0] (⟨2, ![64, W]⟩ : Shape) := by decide) :
    IVec (⟨2, ![64, W]⟩ : Shape) 1 := extractStridedSlice ⟨2, ![64, W]⟩ ![0, 0] m h

theorem lanes64_0 : Rows (P := 6) rows64 (lanes 64 kernelRun0_A.sl.r_161) (bitClear 0) := Rows.slice _ rfl (by decide) (by decide) row64_0

theorem lanes64_1 : Rows (P := 6) rows64 (lanes 64 (k0_pay296 kernelRun0_A.sl.v1121)) (bitClear 1) := Rows.slice _ rfl (by decide) (by decide) row64_1

theorem lanes64_2 : Rows (P := 6) rows64 (lanes 64 (k0_pay297 kernelRun0_A.sl.v1121)) (bitClear 2) := Rows.slice _ rfl (by decide) (by decide) row64_2

theorem lanes64_3 : Rows (P := 6) rows64 (lanes 64 (k0_pay298 kernelRun0_A.sl.v1121)) (bitClear 3) := Rows.slice _ rfl (by decide) (by decide) row64_3

theorem lanes64_4 : Rows (P := 6) rows64 (lanes 64 (k0_pay299 kernelRun0_A.sl.v1121)) (bitClear 4) := Rows.slice _ rfl (by decide) (by decide) row64_4

theorem lanes64_5 : Rows (P := 6) rows64 (lanes 64 (k0_pay300 kernelRun0_A.sl.v1121)) (bitClear 5) := Rows.slice _ rfl (by decide) (by decide) row64_5

theorem lanes32_0 : Rows (P := 6) rows64 (lanes 32 kernelRun0_A.sl.r_161) (bitClear 0) := Rows.slice _ rfl (by decide) (by decide) row64_0

theorem lanes32_1 : Rows (P := 6) rows64 (lanes 32 (k0_pay296 kernelRun0_A.sl.v1121)) (bitClear 1) := Rows.slice _ rfl (by decide) (by decide) row64_1

theorem lanes32_2 : Rows (P := 6) rows64 (lanes 32 (k0_pay297 kernelRun0_A.sl.v1121)) (bitClear 2) := Rows.slice _ rfl (by decide) (by decide) row64_2

theorem lanes32_3 : Rows (P := 6) rows64 (lanes 32 (k0_pay298 kernelRun0_A.sl.v1121)) (bitClear 3) := Rows.slice _ rfl (by decide) (by decide) row64_3

theorem lanes32_4 : Rows (P := 6) rows64 (lanes 32 (k0_pay299 kernelRun0_A.sl.v1121)) (bitClear 4) := Rows.slice _ rfl (by decide) (by decide) row64_4

theorem lanes32_5 : Rows (P := 6) rows64 (lanes 32 (k0_pay300 kernelRun0_A.sl.v1121)) (bitClear 5) := Rows.slice _ rfl (by decide) (by decide) row64_5

theorem lanes16_0 : Rows (P := 6) rows64 (lanes 16 kernelRun0_A.sl.r_161) (bitClear 0) := Rows.slice _ rfl (by decide) (by decide) row64_0

theorem lanes16_1 : Rows (P := 6) rows64 (lanes 16 (k0_pay296 kernelRun0_A.sl.v1121)) (bitClear 1) := Rows.slice _ rfl (by decide) (by decide) row64_1

theorem lanes16_2 : Rows (P := 6) rows64 (lanes 16 (k0_pay297 kernelRun0_A.sl.v1121)) (bitClear 2) := Rows.slice _ rfl (by decide) (by decide) row64_2

theorem lanes16_3 : Rows (P := 6) rows64 (lanes 16 (k0_pay298 kernelRun0_A.sl.v1121)) (bitClear 3) := Rows.slice _ rfl (by decide) (by decide) row64_3

theorem lanes16_4 : Rows (P := 6) rows64 (lanes 16 (k0_pay299 kernelRun0_A.sl.v1121)) (bitClear 4) := Rows.slice _ rfl (by decide) (by decide) row64_4

theorem lanes16_5 : Rows (P := 6) rows64 (lanes 16 (k0_pay300 kernelRun0_A.sl.v1121)) (bitClear 5) := Rows.slice _ rfl (by decide) (by decide) row64_5

theorem lanes8_0 : Rows (P := 6) rows64 (lanes 8 kernelRun0_A.sl.r_161) (bitClear 0) := Rows.slice _ rfl (by decide) (by decide) row64_0

theorem lanes8_1 : Rows (P := 6) rows64 (lanes 8 (k0_pay296 kernelRun0_A.sl.v1121)) (bitClear 1) := Rows.slice _ rfl (by decide) (by decide) row64_1

theorem lanes8_2 : Rows (P := 6) rows64 (lanes 8 (k0_pay297 kernelRun0_A.sl.v1121)) (bitClear 2) := Rows.slice _ rfl (by decide) (by decide) row64_2

theorem lanes8_3 : Rows (P := 6) rows64 (lanes 8 (k0_pay298 kernelRun0_A.sl.v1121)) (bitClear 3) := Rows.slice _ rfl (by decide) (by decide) row64_3

theorem lanes8_4 : Rows (P := 6) rows64 (lanes 8 (k0_pay299 kernelRun0_A.sl.v1121)) (bitClear 4) := Rows.slice _ rfl (by decide) (by decide) row64_4

theorem lanes8_5 : Rows (P := 6) rows64 (lanes 8 (k0_pay300 kernelRun0_A.sl.v1121)) (bitClear 5) := Rows.slice _ rfl (by decide) (by decide) row64_5

theorem lanes4_0 : Rows (P := 6) rows64 (lanes 4 kernelRun0_A.sl.r_161) (bitClear 0) := Rows.slice _ rfl (by decide) (by decide) row64_0

theorem lanes4_1 : Rows (P := 6) rows64 (lanes 4 (k0_pay296 kernelRun0_A.sl.v1121)) (bitClear 1) := Rows.slice _ rfl (by decide) (by decide) row64_1

theorem lanes4_2 : Rows (P := 6) rows64 (lanes 4 (k0_pay297 kernelRun0_A.sl.v1121)) (bitClear 2) := Rows.slice _ rfl (by decide) (by decide) row64_2

theorem lanes4_3 : Rows (P := 6) rows64 (lanes 4 (k0_pay298 kernelRun0_A.sl.v1121)) (bitClear 3) := Rows.slice _ rfl (by decide) (by decide) row64_3

theorem lanes4_4 : Rows (P := 6) rows64 (lanes 4 (k0_pay299 kernelRun0_A.sl.v1121)) (bitClear 4) := Rows.slice _ rfl (by decide) (by decide) row64_4

theorem lanes4_5 : Rows (P := 6) rows64 (lanes 4 (k0_pay300 kernelRun0_A.sl.v1121)) (bitClear 5) := Rows.slice _ rfl (by decide) (by decide) row64_5

theorem lanes2_0 : Rows (P := 6) rows64 (lanes 2 kernelRun0_A.sl.r_161) (bitClear 0) := Rows.slice _ rfl (by decide) (by decide) row64_0

theorem lanes2_1 : Rows (P := 6) rows64 (lanes 2 (k0_pay296 kernelRun0_A.sl.v1121)) (bitClear 1) := Rows.slice _ rfl (by decide) (by decide) row64_1

theorem lanes2_2 : Rows (P := 6) rows64 (lanes 2 (k0_pay297 kernelRun0_A.sl.v1121)) (bitClear 2) := Rows.slice _ rfl (by decide) (by decide) row64_2

theorem lanes2_3 : Rows (P := 6) rows64 (lanes 2 (k0_pay298 kernelRun0_A.sl.v1121)) (bitClear 3) := Rows.slice _ rfl (by decide) (by decide) row64_3

theorem lanes2_4 : Rows (P := 6) rows64 (lanes 2 (k0_pay299 kernelRun0_A.sl.v1121)) (bitClear 4) := Rows.slice _ rfl (by decide) (by decide) row64_4

theorem lanes2_5 : Rows (P := 6) rows64 (lanes 2 (k0_pay300 kernelRun0_A.sl.v1121)) (bitClear 5) := Rows.slice _ rfl (by decide) (by decide) row64_5

theorem lanes1_0 : Rows (P := 6) rows64 (lanes 1 kernelRun0_A.sl.r_161) (bitClear 0) := Rows.slice _ rfl (by decide) (by decide) row64_0

theorem lanes1_1 : Rows (P := 6) rows64 (lanes 1 (k0_pay296 kernelRun0_A.sl.v1121)) (bitClear 1) := Rows.slice _ rfl (by decide) (by decide) row64_1

theorem lanes1_2 : Rows (P := 6) rows64 (lanes 1 (k0_pay297 kernelRun0_A.sl.v1121)) (bitClear 2) := Rows.slice _ rfl (by decide) (by decide) row64_2

theorem lanes1_3 : Rows (P := 6) rows64 (lanes 1 (k0_pay298 kernelRun0_A.sl.v1121)) (bitClear 3) := Rows.slice _ rfl (by decide) (by decide) row64_3

theorem lanes1_4 : Rows (P := 6) rows64 (lanes 1 (k0_pay299 kernelRun0_A.sl.v1121)) (bitClear 4) := Rows.slice _ rfl (by decide) (by decide) row64_4

theorem lanes1_5 : Rows (P := 6) rows64 (lanes 1 (k0_pay300 kernelRun0_A.sl.v1121)) (bitClear 5) := Rows.slice _ rfl (by decide) (by decide) row64_5

-- The printed vectors are compared as written, not entry by entry.
attribute [local irreducible] extractStridedSlice concatenate

variable (c : Dev nD) (arg0 : Memref sig .tc .vmem S256x128 .f32) (harg0 : arg0.IsWhole) (x0 : Vec Ideal S256x128 .f32)

/-- The values stored after the last fold. -/
noncomputable abbrev topVal : FVec Ideal S64x1 .f32 :=
  k0_pay682 kernelRun0_A.sl.r_161 (kernelRun0_A.sl.r_302 c arg0 harg0 x0) (kernelRun0_A.sl.r_303 c arg0 harg0 x0)
    (k0_pay671 (k0_pay296 kernelRun0_A.sl.v1121)) (kernelRun0_A.sl.r_304 c arg0 harg0 x0) (kernelRun0_A.sl.r_305 c arg0 harg0 x0)

/-- The indices stored after the last fold. -/
noncomputable abbrev topIdx : IVec S64x1 32 :=
  k0_pay683 (F := Ideal) kernelRun0_A.sl.r_161 (kernelRun0_A.sl.r_302 c arg0 harg0 x0) (kernelRun0_A.sl.r_303 c arg0 harg0 x0)
    (k0_pay671 (k0_pay296 kernelRun0_A.sl.v1121)) (kernelRun0_A.sl.r_304 c arg0 harg0 x0) (kernelRun0_A.sl.r_305 c arg0 harg0 x0)

/-- The seven folds keep the greatest entries. -/
theorem phase3_holds {A : Multiset Key}
    (h : Holds A (colKey rows64 (kernelRun0_A.sl.r_159 (F := Ideal) c arg0 harg0 x0) (kernelRun0_A.sl.r_160 (F := Ideal) c arg0 harg0 x0))) :
    Holds A (colKey rows64 (topVal c arg0 harg0 x0) (topIdx c arg0 harg0 x0)) := by
  apply Holds.level (W := 2) (W' := 1) ?merge1 ?max1 ?maxI1 ?rev1 ?revI1 (by decide) ?fst1 ?fstI1 (by decide) ?snd1 ?sndI1 rfl ?prev1
  case merge1 =>
    intro l
    refine merge_step (by decide) lanes1_0 (shapeCast_self _ _) (shapeCast_self _ _)
      (swap_of_select (d := 1) (e := 63) (by decide) rfl (hm := lanes1_0) (hpv := rfl) (he := rfl))
      (swap_of_select (d := 1) (e := 63) (by decide) rfl (hm := lanes1_0) (hpv := rfl) (he := rfl)) ?_
    refine merge_step (by decide) lanes1_1 rfl rfl
      (swap_of_select (d := 2) (e := 62) (by decide) rfl (hm := lanes1_1) (hpv := rfl) (he := rfl))
      (swap_of_select (d := 2) (e := 62) (by decide) rfl (hm := lanes1_1) (hpv := rfl) (he := rfl)) ?_
    refine merge_step (by decide) lanes1_2 rfl rfl
      (swap_of_select (d := 4) (e := 60) (by decide) rfl (hm := lanes1_2) (hpv := rfl) (he := rfl))
      (swap_of_select (d := 4) (e := 60) (by decide) rfl (hm := lanes1_2) (hpv := rfl) (he := rfl)) ?_
    refine merge_step (by decide) lanes1_3 rfl rfl
      (swap_of_pieces (d := 8) (by decide) rfl (hpv := rfl) (hl := rfl))
      (swap_of_pieces (d := 8) (by decide) rfl (hpv := rfl) (hl := rfl)) ?_
    refine merge_step (by decide) lanes1_4 rfl rfl
      (swap_of_pieces (d := 16) (by decide) rfl (hpv := rfl) (hl := rfl))
      (swap_of_pieces (d := 16) (by decide) rfl (hpv := rfl) (hl := rfl)) ?_
    refine merge_step (by decide) lanes1_5 rfl rfl
      (swap_of_pieces (d := 32) (by decide) rfl (hpv := rfl) (hl := rfl))
      (swap_of_pieces (d := 32) (by decide) rfl (hpv := rfl) (hl := rfl)) ?_
    rfl
  case max1 => rfl
  case maxI1 => rfl
  case rev1 =>
    exact reversed_of_swaps
      (swap_of_select (d := 1) (e := 63) (by decide) rfl (hm := lanes1_0) (hpv := rfl) (he := rfl))
      (swap_of_select (d := 2) (e := 62) (by decide) rfl (hm := lanes1_1) (hpv := rfl) (he := rfl))
      (swap_of_select (d := 4) (e := 60) (by decide) rfl (hm := lanes1_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI1 =>
    exact reversed_of_swaps
      (swap_of_select (d := 1) (e := 63) (by decide) rfl (hm := lanes1_0) (hpv := rfl) (he := rfl))
      (swap_of_select (d := 2) (e := 62) (by decide) rfl (hm := lanes1_1) (hpv := rfl) (he := rfl))
      (swap_of_select (d := 4) (e := 60) (by decide) rfl (hm := lanes1_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst1 => rfl
  case fstI1 => rfl
  case snd1 => rfl
  case sndI1 => rfl
  apply Holds.level (W := 4) (W' := 2) ?merge2 ?max2 ?maxI2 ?rev2 ?revI2 (by decide) ?fst2 ?fstI2 (by decide) ?snd2 ?sndI2 rfl ?prev2
  case merge2 =>
    intro l
    refine merge_step (by decide) lanes2_0 rfl rfl
      (swap_of_select (d := 1) (e := 63) (by decide) rfl (hm := lanes2_0) (hpv := rfl) (he := rfl))
      (swap_of_select (d := 1) (e := 63) (by decide) rfl (hm := lanes2_0) (hpv := rfl) (he := rfl)) ?_
    refine merge_step (by decide) lanes2_1 rfl rfl
      (swap_of_select (d := 2) (e := 62) (by decide) rfl (hm := lanes2_1) (hpv := rfl) (he := rfl))
      (swap_of_select (d := 2) (e := 62) (by decide) rfl (hm := lanes2_1) (hpv := rfl) (he := rfl)) ?_
    refine merge_step (by decide) lanes2_2 rfl rfl
      (swap_of_select (d := 4) (e := 60) (by decide) rfl (hm := lanes2_2) (hpv := rfl) (he := rfl))
      (swap_of_select (d := 4) (e := 60) (by decide) rfl (hm := lanes2_2) (hpv := rfl) (he := rfl)) ?_
    refine merge_step (by decide) lanes2_3 rfl rfl
      (swap_of_pieces (d := 8) (by decide) rfl (hpv := rfl) (hl := rfl))
      (swap_of_pieces (d := 8) (by decide) rfl (hpv := rfl) (hl := rfl)) ?_
    refine merge_step (by decide) lanes2_4 rfl rfl
      (swap_of_pieces (d := 16) (by decide) rfl (hpv := rfl) (hl := rfl))
      (swap_of_pieces (d := 16) (by decide) rfl (hpv := rfl) (hl := rfl)) ?_
    refine merge_step (by decide) lanes2_5 rfl rfl
      (swap_of_pieces (d := 32) (by decide) rfl (hpv := rfl) (hl := rfl))
      (swap_of_pieces (d := 32) (by decide) rfl (hpv := rfl) (hl := rfl)) ?_
    rfl
  case max2 => rfl
  case maxI2 => rfl
  case rev2 =>
    exact reversed_of_swaps
      (swap_of_select (d := 1) (e := 63) (by decide) rfl (hm := lanes2_0) (hpv := rfl) (he := rfl))
      (swap_of_select (d := 2) (e := 62) (by decide) rfl (hm := lanes2_1) (hpv := rfl) (he := rfl))
      (swap_of_select (d := 4) (e := 60) (by decide) rfl (hm := lanes2_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI2 =>
    exact reversed_of_swaps
      (swap_of_select (d := 1) (e := 63) (by decide) rfl (hm := lanes2_0) (hpv := rfl) (he := rfl))
      (swap_of_select (d := 2) (e := 62) (by decide) rfl (hm := lanes2_1) (hpv := rfl) (he := rfl))
      (swap_of_select (d := 4) (e := 60) (by decide) rfl (hm := lanes2_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst2 => rfl
  case fstI2 => rfl
  case snd2 => rfl
  case sndI2 => rfl
  apply Holds.level (W := 8) (W' := 4) ?merge4 ?max4 ?maxI4 ?rev4 ?revI4 (by decide) ?fst4 ?fstI4 (by decide) ?snd4 ?sndI4 rfl ?prev4
  case merge4 =>
    intro l
    refine merge_step (by decide) lanes4_0 rfl rfl
      (swap_of_select (d := 1) (e := 63) (by decide) rfl (hm := lanes4_0) (hpv := rfl) (he := rfl))
      (swap_of_select (d := 1) (e := 63) (by decide) rfl (hm := lanes4_0) (hpv := rfl) (he := rfl)) ?_
    refine merge_step (by decide) lanes4_1 rfl rfl
      (swap_of_select (d := 2) (e := 62) (by decide) rfl (hm := lanes4_1) (hpv := rfl) (he := rfl))
      (swap_of_select (d := 2) (e := 62) (by decide) rfl (hm := lanes4_1) (hpv := rfl) (he := rfl)) ?_
    refine merge_step (by decide) lanes4_2 rfl rfl
      (swap_of_select (d := 4) (e := 60) (by decide) rfl (hm := lanes4_2) (hpv := rfl) (he := rfl))
      (swap_of_select (d := 4) (e := 60) (by decide) rfl (hm := lanes4_2) (hpv := rfl) (he := rfl)) ?_
    refine merge_step (by decide) lanes4_3 rfl rfl
      (swap_of_pieces (d := 8) (by decide) rfl (hpv := rfl) (hl := rfl))
      (swap_of_pieces (d := 8) (by decide) rfl (hpv := rfl) (hl := rfl)) ?_
    refine merge_step (by decide) lanes4_4 rfl rfl
      (swap_of_pieces (d := 16) (by decide) rfl (hpv := rfl) (hl := rfl))
      (swap_of_pieces (d := 16) (by decide) rfl (hpv := rfl) (hl := rfl)) ?_
    refine merge_step (by decide) lanes4_5 rfl rfl
      (swap_of_pieces (d := 32) (by decide) rfl (hpv := rfl) (hl := rfl))
      (swap_of_pieces (d := 32) (by decide) rfl (hpv := rfl) (hl := rfl)) ?_
    rfl
  case max4 => rfl
  case maxI4 => rfl
  case rev4 =>
    exact reversed_of_swaps
      (swap_of_select (d := 1) (e := 63) (by decide) rfl (hm := lanes4_0) (hpv := rfl) (he := rfl))
      (swap_of_select (d := 2) (e := 62) (by decide) rfl (hm := lanes4_1) (hpv := rfl) (he := rfl))
      (swap_of_select (d := 4) (e := 60) (by decide) rfl (hm := lanes4_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI4 =>
    exact reversed_of_swaps
      (swap_of_select (d := 1) (e := 63) (by decide) rfl (hm := lanes4_0) (hpv := rfl) (he := rfl))
      (swap_of_select (d := 2) (e := 62) (by decide) rfl (hm := lanes4_1) (hpv := rfl) (he := rfl))
      (swap_of_select (d := 4) (e := 60) (by decide) rfl (hm := lanes4_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst4 => rfl
  case fstI4 => rfl
  case snd4 => rfl
  case sndI4 => rfl
  apply Holds.level (W := 16) (W' := 8) ?merge8 ?max8 ?maxI8 ?rev8 ?revI8 (by decide) ?fst8 ?fstI8 (by decide) ?snd8 ?sndI8 rfl ?prev8
  case merge8 =>
    intro l
    refine merge_step (by decide) lanes8_0 rfl rfl
      (swap_of_select (d := 1) (e := 63) (by decide) rfl (hm := lanes8_0) (hpv := rfl) (he := rfl))
      (swap_of_select (d := 1) (e := 63) (by decide) rfl (hm := lanes8_0) (hpv := rfl) (he := rfl)) ?_
    refine merge_step (by decide) lanes8_1 rfl rfl
      (swap_of_select (d := 2) (e := 62) (by decide) rfl (hm := lanes8_1) (hpv := rfl) (he := rfl))
      (swap_of_select (d := 2) (e := 62) (by decide) rfl (hm := lanes8_1) (hpv := rfl) (he := rfl)) ?_
    refine merge_step (by decide) lanes8_2 rfl rfl
      (swap_of_select (d := 4) (e := 60) (by decide) rfl (hm := lanes8_2) (hpv := rfl) (he := rfl))
      (swap_of_select (d := 4) (e := 60) (by decide) rfl (hm := lanes8_2) (hpv := rfl) (he := rfl)) ?_
    refine merge_step (by decide) lanes8_3 rfl rfl
      (swap_of_pieces (d := 8) (by decide) rfl (hpv := rfl) (hl := rfl))
      (swap_of_pieces (d := 8) (by decide) rfl (hpv := rfl) (hl := rfl)) ?_
    refine merge_step (by decide) lanes8_4 rfl rfl
      (swap_of_pieces (d := 16) (by decide) rfl (hpv := rfl) (hl := rfl))
      (swap_of_pieces (d := 16) (by decide) rfl (hpv := rfl) (hl := rfl)) ?_
    refine merge_step (by decide) lanes8_5 rfl rfl
      (swap_of_pieces (d := 32) (by decide) rfl (hpv := rfl) (hl := rfl))
      (swap_of_pieces (d := 32) (by decide) rfl (hpv := rfl) (hl := rfl)) ?_
    rfl
  case max8 => rfl
  case maxI8 => rfl
  case rev8 =>
    exact reversed_of_swaps
      (swap_of_select (d := 1) (e := 63) (by decide) rfl (hm := lanes8_0) (hpv := rfl) (he := rfl))
      (swap_of_select (d := 2) (e := 62) (by decide) rfl (hm := lanes8_1) (hpv := rfl) (he := rfl))
      (swap_of_select (d := 4) (e := 60) (by decide) rfl (hm := lanes8_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI8 =>
    exact reversed_of_swaps
      (swap_of_select (d := 1) (e := 63) (by decide) rfl (hm := lanes8_0) (hpv := rfl) (he := rfl))
      (swap_of_select (d := 2) (e := 62) (by decide) rfl (hm := lanes8_1) (hpv := rfl) (he := rfl))
      (swap_of_select (d := 4) (e := 60) (by decide) rfl (hm := lanes8_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst8 => rfl
  case fstI8 => rfl
  case snd8 => rfl
  case sndI8 => rfl
  apply Holds.level (W := 32) (W' := 16) ?merge16 ?max16 ?maxI16 ?rev16 ?revI16 (by decide) ?fst16 ?fstI16 (by decide) ?snd16 ?sndI16 rfl ?prev16
  case merge16 =>
    intro l
    refine merge_step (by decide) lanes16_0 rfl rfl
      (swap_of_select (d := 1) (e := 63) (by decide) rfl (hm := lanes16_0) (hpv := rfl) (he := rfl))
      (swap_of_select (d := 1) (e := 63) (by decide) rfl (hm := lanes16_0) (hpv := rfl) (he := rfl)) ?_
    refine merge_step (by decide) lanes16_1 rfl rfl
      (swap_of_select (d := 2) (e := 62) (by decide) rfl (hm := lanes16_1) (hpv := rfl) (he := rfl))
      (swap_of_select (d := 2) (e := 62) (by decide) rfl (hm := lanes16_1) (hpv := rfl) (he := rfl)) ?_
    refine merge_step (by decide) lanes16_2 rfl rfl
      (swap_of_select (d := 4) (e := 60) (by decide) rfl (hm := lanes16_2) (hpv := rfl) (he := rfl))
      (swap_of_select (d := 4) (e := 60) (by decide) rfl (hm := lanes16_2) (hpv := rfl) (he := rfl)) ?_
    refine merge_step (by decide) lanes16_3 rfl rfl
      (swap_of_pieces (d := 8) (by decide) rfl (hpv := rfl) (hl := rfl))
      (swap_of_pieces (d := 8) (by decide) rfl (hpv := rfl) (hl := rfl)) ?_
    refine merge_step (by decide) lanes16_4 rfl rfl
      (swap_of_pieces (d := 16) (by decide) rfl (hpv := rfl) (hl := rfl))
      (swap_of_pieces (d := 16) (by decide) rfl (hpv := rfl) (hl := rfl)) ?_
    refine merge_step (by decide) lanes16_5 rfl rfl
      (swap_of_pieces (d := 32) (by decide) rfl (hpv := rfl) (hl := rfl))
      (swap_of_pieces (d := 32) (by decide) rfl (hpv := rfl) (hl := rfl)) ?_
    rfl
  case max16 => rfl
  case maxI16 => rfl
  case rev16 =>
    exact reversed_of_swaps
      (swap_of_select (d := 1) (e := 63) (by decide) rfl (hm := lanes16_0) (hpv := rfl) (he := rfl))
      (swap_of_select (d := 2) (e := 62) (by decide) rfl (hm := lanes16_1) (hpv := rfl) (he := rfl))
      (swap_of_select (d := 4) (e := 60) (by decide) rfl (hm := lanes16_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI16 =>
    exact reversed_of_swaps
      (swap_of_select (d := 1) (e := 63) (by decide) rfl (hm := lanes16_0) (hpv := rfl) (he := rfl))
      (swap_of_select (d := 2) (e := 62) (by decide) rfl (hm := lanes16_1) (hpv := rfl) (he := rfl))
      (swap_of_select (d := 4) (e := 60) (by decide) rfl (hm := lanes16_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst16 => rfl
  case fstI16 => rfl
  case snd16 => rfl
  case sndI16 => rfl
  apply Holds.level (W := 64) (W' := 32) ?merge32 ?max32 ?maxI32 ?rev32 ?revI32 (by decide) ?fst32 ?fstI32 (by decide) ?snd32 ?sndI32 rfl ?prev32
  case merge32 =>
    intro l
    refine merge_step (by decide) lanes32_0 rfl rfl
      (swap_of_select (d := 1) (e := 63) (by decide) rfl (hm := lanes32_0) (hpv := rfl) (he := rfl))
      (swap_of_select (d := 1) (e := 63) (by decide) rfl (hm := lanes32_0) (hpv := rfl) (he := rfl)) ?_
    refine merge_step (by decide) lanes32_1 rfl rfl
      (swap_of_select (d := 2) (e := 62) (by decide) rfl (hm := lanes32_1) (hpv := rfl) (he := rfl))
      (swap_of_select (d := 2) (e := 62) (by decide) rfl (hm := lanes32_1) (hpv := rfl) (he := rfl)) ?_
    refine merge_step (by decide) lanes32_2 rfl rfl
      (swap_of_select (d := 4) (e := 60) (by decide) rfl (hm := lanes32_2) (hpv := rfl) (he := rfl))
      (swap_of_select (d := 4) (e := 60) (by decide) rfl (hm := lanes32_2) (hpv := rfl) (he := rfl)) ?_
    refine merge_step (by decide) lanes32_3 rfl rfl
      (swap_of_pieces (d := 8) (by decide) rfl (hpv := rfl) (hl := rfl))
      (swap_of_pieces (d := 8) (by decide) rfl (hpv := rfl) (hl := rfl)) ?_
    refine merge_step (by decide) lanes32_4 rfl rfl
      (swap_of_pieces (d := 16) (by decide) rfl (hpv := rfl) (hl := rfl))
      (swap_of_pieces (d := 16) (by decide) rfl (hpv := rfl) (hl := rfl)) ?_
    refine merge_step (by decide) lanes32_5 rfl rfl
      (swap_of_pieces (d := 32) (by decide) rfl (hpv := rfl) (hl := rfl))
      (swap_of_pieces (d := 32) (by decide) rfl (hpv := rfl) (hl := rfl)) ?_
    rfl
  case max32 => rfl
  case maxI32 => rfl
  case rev32 =>
    exact reversed_of_swaps
      (swap_of_select (d := 1) (e := 63) (by decide) rfl (hm := lanes32_0) (hpv := rfl) (he := rfl))
      (swap_of_select (d := 2) (e := 62) (by decide) rfl (hm := lanes32_1) (hpv := rfl) (he := rfl))
      (swap_of_select (d := 4) (e := 60) (by decide) rfl (hm := lanes32_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI32 =>
    exact reversed_of_swaps
      (swap_of_select (d := 1) (e := 63) (by decide) rfl (hm := lanes32_0) (hpv := rfl) (he := rfl))
      (swap_of_select (d := 2) (e := 62) (by decide) rfl (hm := lanes32_1) (hpv := rfl) (he := rfl))
      (swap_of_select (d := 4) (e := 60) (by decide) rfl (hm := lanes32_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst32 => rfl
  case fstI32 => rfl
  case snd32 => rfl
  case sndI32 => rfl
  apply Holds.level (W := 128) (W' := 64) ?merge64 ?max64 ?maxI64 ?rev64 ?revI64 (by decide) ?fst64 ?fstI64 (by decide) ?snd64 ?sndI64 rfl ?prev64
  case merge64 =>
    intro l
    refine merge_step (by decide) lanes64_0 rfl rfl
      (swap_of_select (d := 1) (e := 63) (by decide) rfl (hm := lanes64_0) (hpv := rfl) (he := rfl))
      (swap_of_select (d := 1) (e := 63) (by decide) rfl (hm := lanes64_0) (hpv := rfl) (he := rfl)) ?_
    refine merge_step (by decide) lanes64_1 rfl rfl
      (swap_of_select (d := 2) (e := 62) (by decide) rfl (hm := lanes64_1) (hpv := rfl) (he := rfl))
      (swap_of_select (d := 2) (e := 62) (by decide) rfl (hm := lanes64_1) (hpv := rfl) (he := rfl)) ?_
    refine merge_step (by decide) lanes64_2 rfl rfl
      (swap_of_select (d := 4) (e := 60) (by decide) rfl (hm := lanes64_2) (hpv := rfl) (he := rfl))
      (swap_of_select (d := 4) (e := 60) (by decide) rfl (hm := lanes64_2) (hpv := rfl) (he := rfl)) ?_
    refine merge_step (by decide) lanes64_3 rfl rfl
      (swap_of_pieces (d := 8) (by decide) rfl (hpv := rfl) (hl := rfl))
      (swap_of_pieces (d := 8) (by decide) rfl (hpv := rfl) (hl := rfl)) ?_
    refine merge_step (by decide) lanes64_4 rfl rfl
      (swap_of_pieces (d := 16) (by decide) rfl (hpv := rfl) (hl := rfl))
      (swap_of_pieces (d := 16) (by decide) rfl (hpv := rfl) (hl := rfl)) ?_
    refine merge_step (by decide) lanes64_5 rfl rfl
      (swap_of_pieces (d := 32) (by decide) rfl (hpv := rfl) (hl := rfl))
      (swap_of_pieces (d := 32) (by decide) rfl (hpv := rfl) (hl := rfl)) ?_
    rfl
  case max64 => rfl
  case maxI64 => rfl
  case rev64 =>
    exact reversed_of_swaps
      (swap_of_select (d := 1) (e := 63) (by decide) rfl (hm := lanes64_0) (hpv := rfl) (he := rfl))
      (swap_of_select (d := 2) (e := 62) (by decide) rfl (hm := lanes64_1) (hpv := rfl) (he := rfl))
      (swap_of_select (d := 4) (e := 60) (by decide) rfl (hm := lanes64_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case revI64 =>
    exact reversed_of_swaps
      (swap_of_select (d := 1) (e := 63) (by decide) rfl (hm := lanes64_0) (hpv := rfl) (he := rfl))
      (swap_of_select (d := 2) (e := 62) (by decide) rfl (hm := lanes64_1) (hpv := rfl) (he := rfl))
      (swap_of_select (d := 4) (e := 60) (by decide) rfl (hm := lanes64_2) (hpv := rfl) (he := rfl))
      (swap_of_pieces (d := 8) (by decide) rfl (hpv := rfl) (hl := rfl))
      (swap_of_pieces (d := 16) (by decide) rfl (hpv := rfl) (hl := rfl))
      (swap_of_pieces (d := 32) (by decide) rfl (hpv := rfl) (hl := rfl))
  case fst64 => rfl
  case fstI64 => rfl
  case snd64 => rfl
  case sndI64 => rfl
  exact h

end Cert.Sparse
-- ==== Proof.Sparse.lean ====
/-
  # The threshold of the sparse projection

`z` is a sequence of extended reals that never increases and never is `+∞`; it reaches `−∞` at some point (a finite
sequence is continued by `−∞`).  Rank `k` is *in the support* when `z k` exceeds the mean `(z 0 + … + z k − 1) / (k + 1)`.
The ranks in the support are an initial segment, of length `K` say, and the threshold that the support gives separates the
ranks below `K` from the rest.
-/
module

public import Idealize.ShloMosaic.PureOps.Ideal.Laws

@[expose] public section

namespace Cert.Sparse

open Idealize.ShloMosaic

/-- The sum of the first `k + 1` entries. -/
noncomputable def upTo (z : ℕ → EReal) (k : ℕ) : EReal := ∑ j ∈ Finset.range (k + 1), z j

/-- Rank `k` is in the support. -/
def InSupport (z : ℕ → EReal) (k : ℕ) : Prop :=
  0 < z k - Ideal.div (upTo z k - 1) (((k : ℝ) + 1 : ℝ) : EReal)

/-- The threshold of a support of `K` ranks. -/
noncomputable def cut (z : ℕ → EReal) (K : ℕ) : EReal :=
  if K = 0 then ⊥ else Ideal.div (upTo z (K - 1) - 1) ((K : ℝ) : EReal)

variable {z : ℕ → EReal}

theorem coe_sum (s : Finset ℕ) (f : ℕ → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Up to a real entry everything is real. -/
theorem upTo_real (hz : Antitone z) (htop : ∀ k, z k < ⊤) (k : ℕ) (hk : z k ≠ ⊥) :
    upTo z k = ((∑ j ∈ Finset.range (k + 1), (z j).toReal : ℝ) : EReal) := by
  unfold upTo
  rw [coe_sum]
  refine Finset.sum_congr rfl fun j hj => ?_
  have h1 : z k ≤ z j := hz (Nat.lt_succ_iff.mp (Finset.mem_range.mp hj))
  rw [EReal.coe_toReal (htop j).ne (fun h => hk (le_bot_iff.mp (h ▸ h1)))]

theorem quotient_real (a b : ℝ) (hb : b ≠ 0) : Ideal.div ((a : EReal) - 1) (b : EReal) = (((a - 1) / b : ℝ) : EReal) := by
  rw [Ideal.div_coe hb, ← EReal.coe_one, ← EReal.coe_sub, ← EReal.coe_mul]
  congr 1
  field_simp

/-- What being in the support says of a real entry. -/
theorem inSupport_real (hz : Antitone z) (htop : ∀ k, z k < ⊤) (k : ℕ) (hk : z k ≠ ⊥) :
    InSupport z k ↔ (∑ j ∈ Finset.range (k + 1), (z j).toReal) - 1 < ((k : ℝ) + 1) * (z k).toReal := by
  have hp : (0 : ℝ) < (k : ℝ) + 1 := by positivity
  unfold InSupport
  rw [upTo_real hz htop k hk, quotient_real _ _ hp.ne', ← EReal.coe_toReal (htop k).ne hk, ← EReal.coe_sub,
    ← EReal.coe_zero, EReal.coe_lt_coe_iff, sub_pos, div_lt_iff₀ hp, EReal.toReal_coe, mul_comm]

/-- An entry `−∞` is not in the support. -/
theorem not_inSupport_bot (k : ℕ) (hk : z k = ⊥) : ¬ InSupport z k := by
  unfold InSupport
  rw [hk, EReal.bot_sub]
  exact not_lt_bot

/-- The ranks in the support are an initial segment. -/
theorem inSupport_of_succ (hz : Antitone z) (htop : ∀ k, z k < ⊤) (k : ℕ) (h : InSupport z (k + 1)) : InSupport z k := by
  have h1 : z (k + 1) ≠ ⊥ := fun e => not_inSupport_bot _ e h
  have hle : z (k + 1) ≤ z k := hz (Nat.le_succ k)
  have h0 : z k ≠ ⊥ := fun e => h1 (le_bot_iff.mp (e ▸ hle))
  rw [inSupport_real hz htop _ h1, Finset.sum_range_succ] at h
  rw [inSupport_real hz htop _ h0]
  have hr : (z (k + 1)).toReal ≤ (z k).toReal := EReal.toReal_le_toReal hle h1 (htop k).ne
  have hp : (0 : ℝ) ≤ (k : ℝ) + 1 := by positivity
  push_cast at h
  nlinarith [mul_le_mul_of_nonneg_left hr hp]

theorem inSupport_of_le (hz : Antitone z) (htop : ∀ k, z k < ⊤) {i k : ℕ} (hik : i ≤ k) (h : InSupport z k) :
    InSupport z i := by
  induction k, hik using Nat.le_induction with
  | base => exact h
  | succ m _ ih => exact ih (inSupport_of_succ hz htop m h)

/-- The length of the support. -/
theorem exists_length (hz : Antitone z) (htop : ∀ k, z k < ⊤) (n : ℕ) (hn : z n = ⊥) :
    ∃ K ≤ n, ∀ k, InSupport z k ↔ k < K := by
  classical
  have hex : ∃ k, ¬ InSupport z k := ⟨n, not_inSupport_bot n hn⟩
  refine ⟨Nat.find hex, Nat.find_min' hex (not_inSupport_bot n hn), fun k => ⟨fun h => ?_, fun h => ?_⟩⟩
  · by_contra hc
    exact Nat.find_spec hex (inSupport_of_le hz htop (not_lt.mp hc) h)
  · exact not_not.mp (Nat.find_min hex h)

/-- A real first entry is in the support. -/
theorem inSupport_zero (hz : Antitone z) (htop : ∀ k, z k < ⊤) (h0 : z 0 ≠ ⊥) : InSupport z 0 := by
  rw [inSupport_real hz htop 0 h0]
  simp

/-- With an empty support every entry is `−∞`. -/
theorem bot_of_empty (hz : Antitone z) (htop : ∀ k, z k < ⊤) (hK : ∀ k, InSupport z k ↔ k < 0) (k : ℕ) : z k = ⊥ := by
  have h0 : z 0 = ⊥ := by
    by_contra h
    exact absurd ((hK 0).mp (inSupport_zero hz htop h)) (by decide)
  exact le_bot_iff.mp (h0 ▸ hz (Nat.zero_le k))

/-- The threshold is below the ranks of the support. -/
theorem cut_lt (hz : Antitone z) (htop : ∀ k, z k < ⊤) {K : ℕ} (hK : ∀ k, InSupport z k ↔ k < K) {k : ℕ} (hk : k < K) :
    cut z K < z k := by
  obtain ⟨m, rfl⟩ : ∃ m, K = m + 1 := ⟨K - 1, by omega⟩
  have hm := (hK m).mpr (Nat.lt_succ_self m)
  have hb : z m ≠ ⊥ := fun e => not_inSupport_bot _ e hm
  have hp : (0 : ℝ) < (m : ℝ) + 1 := by positivity
  refine lt_of_lt_of_le ?_ (hz (Nat.lt_succ_iff.mp hk))
  rw [inSupport_real hz htop m hb] at hm
  unfold cut
  rw [if_neg (Nat.succ_ne_zero m), Nat.add_sub_cancel, upTo_real hz htop m hb, Nat.cast_succ, quotient_real _ _ hp.ne',
    ← EReal.coe_toReal (htop m).ne hb, EReal.coe_lt_coe_iff, div_lt_iff₀ hp, mul_comm (z m).toReal]
  exact hm

/-- The threshold is not below the other ranks. -/
theorem le_cut (hz : Antitone z) (htop : ∀ k, z k < ⊤) {K : ℕ} (hK : ∀ k, InSupport z k ↔ k < K) {k : ℕ} (hk : K ≤ k) :
    z k ≤ cut z K := by
  rcases Nat.eq_zero_or_pos K with rfl | hpos
  · rw [bot_of_empty hz htop hK k]
    exact bot_le
  obtain ⟨m, rfl⟩ : ∃ m, K = m + 1 := ⟨K - 1, by omega⟩
  refine (hz hk).trans ?_
  by_cases hb1 : z (m + 1) = ⊥
  · rw [hb1]; exact bot_le
  have hm := (hK m).mpr (Nat.lt_succ_self m)
  have hb : z m ≠ ⊥ := fun e => not_inSupport_bot _ e hm
  have hn : ¬ InSupport z (m + 1) := fun h => absurd ((hK _).mp h) (lt_irrefl _)
  have hp : (0 : ℝ) < (m : ℝ) + 1 := by positivity
  rw [inSupport_real hz htop _ hb1, Finset.sum_range_succ, not_lt] at hn
  push_cast at hn
  unfold cut
  rw [if_neg (Nat.succ_ne_zero m), Nat.add_sub_cancel, upTo_real hz htop m hb, Nat.cast_succ, quotient_real _ _ hp.ne',
    ← EReal.coe_toReal (htop (m + 1)).ne hb1, EReal.coe_le_coe_iff, le_div_iff₀ hp]
  linarith

/-- The threshold of a support that is not empty is real. -/
theorem cut_real (hz : Antitone z) (htop : ∀ k, z k < ⊤) {K : ℕ} (hK : ∀ k, InSupport z k ↔ k < K) (hpos : 0 < K) :
    ∃ t : ℝ, cut z K = (t : EReal) := by
  obtain ⟨m, rfl⟩ : ∃ m, K = m + 1 := ⟨K - 1, by omega⟩
  have hm := (hK m).mpr (Nat.lt_succ_self m)
  have hb : z m ≠ ⊥ := fun e => not_inSupport_bot _ e hm
  have hp : (0 : ℝ) < (m : ℝ) + 1 := by positivity
  unfold cut
  rw [if_neg (Nat.succ_ne_zero m), Nat.add_sub_cancel, upTo_real hz htop m hb, Nat.cast_succ, quotient_real _ _ hp.ne']
  exact ⟨_, rfl⟩

/-- An entry not above the threshold has weight `0`. -/
theorem weight_zero (hz : Antitone z) (htop : ∀ k, z k < ⊤) {K : ℕ} (hK : ∀ k, InSupport z k ↔ k < K) {a : EReal}
    (ha : a ≤ cut z K) : max 0 (a - cut z K) = 0 := by
  refine max_eq_left ?_
  rcases Nat.eq_zero_or_pos K with rfl | hpos
  · have h : cut z 0 = ⊥ := if_pos rfl
    rw [h] at ha
    rw [le_bot_iff.mp ha, EReal.bot_sub]
    exact bot_le
  · obtain ⟨t, ht⟩ := cut_real hz htop hK hpos
    rw [ht] at ha ⊢
    exact (EReal.sub_le_sub ha le_rfl).trans (by rw [← EReal.coe_sub, sub_self, EReal.coe_zero])

/-- An entry above the threshold has a positive weight. -/
theorem weight_pos {K : ℕ} {a : EReal} {t : ℝ} (ht : cut z K = t) (hat : a < ⊤) (ha : cut z K < a) :
    max 0 (a - cut z K) = ((a.toReal - t : ℝ) : EReal) ∧ 0 < a.toReal - t := by
  rw [ht] at ha ⊢
  have hb : a ≠ ⊥ := (bot_le.trans_lt ha).ne'
  have hr : t < a.toReal := by
    rw [← EReal.coe_toReal hat.ne hb, EReal.coe_lt_coe_iff] at ha
    exact ha
  refine ⟨?_, sub_pos.mpr hr⟩
  rw [max_eq_right, EReal.coe_sub, EReal.coe_toReal hat.ne hb]
  rw [← EReal.coe_toReal hat.ne hb, ← EReal.coe_sub, ← EReal.coe_zero, EReal.coe_le_coe_iff]
  exact (sub_pos.mpr hr).le

/-- Above the threshold the weights are ordered as the entries are. -/
theorem weight_lt (hz : Antitone z) (htop : ∀ k, z k < ⊤) {K : ℕ} (hK : ∀ k, InSupport z k ↔ k < K) {a b : EReal}
    (ha : a < ⊤) (hab : b < a) (hc : cut z K < a) (hpos : 0 < K) :
    max 0 (b - cut z K) < max 0 (a - cut z K) := by
  obtain ⟨t, ht⟩ := cut_real hz htop hK hpos
  obtain ⟨e, h⟩ := weight_pos ht ha hc
  rw [e]
  by_cases hb : cut z K < b
  · obtain ⟨e', h'⟩ := weight_pos ht (hab.trans ha) hb
    rw [e', EReal.coe_lt_coe_iff]
    have hb0 : b ≠ ⊥ := (bot_le.trans_lt hb).ne'
    have hb1 : b ≠ ⊤ := (hab.trans ha).ne
    rw [← EReal.coe_toReal ha.ne (bot_le.trans_lt hc).ne', ← EReal.coe_toReal hb1 hb0, EReal.coe_lt_coe_iff] at hab
    linarith
  · rw [weight_zero hz htop hK (not_lt.mp hb), ← EReal.coe_zero, EReal.coe_lt_coe_iff]
    exact h

end Cert.Sparse
-- ==== Proof.Rank.lean ====
/-
  The order of a finite list of extended reals, greatest first and earlier positions first among equals (`order`), and what the
  sparse projection makes of it.

  * `order_weight`: let `K` be the length of the support.  If `q j` is the `j`-th position of the order for `j < K`, and after
    that the positions of the entries that are not above the threshold, by increasing position, then `q` lists the positions of
    the greatest weights `max 0 (x - threshold)`, earlier positions first among equals.
  * `eq_sorted`: a rearrangement of the list that never increases is the list read in `order`.
-/
module

public import proofs.«01_k».proof.Proof.Sparse
public import proofs.«01_k».proof.Proof.Stage
public import Idealize.ShloMosaic.Lib.SortNet.Positions
public import Mathlib.Order.Interval.Finset.Nat
public import Mathlib.Data.Nat.Count

@[expose] public section

namespace Cert.Sparse

open Idealize.ShloMosaic Idealize.ShloMosaic.SortNet

/-- A stable sort of an increasing list asks its comparator only about a later element against an earlier one. -/
theorem stableSort_congr_later {n : ℕ} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

theorem sortedFrom_congr_later {n : ℕ} (R B : Fin n → Fin n → Bool) (h : ∀ a b, a < b → R b a = B b a) :
    sortedFrom R = sortedFrom B := by
  funext k
  unfold sortedFrom
  rw [List.get_of_eq (show sortPositions n R = sortPositions n B from
    stableSort_congr_later R B h _ (List.sortedLT_finRange n).pairwise)]
  rfl

variable {n : ℕ}

/-- The entry at position `t`: by value, earlier positions greater among equals. -/
noncomputable def flatKey (x : Fin n → EReal) (t : Fin n) : Key := key (x t) (BitVec.ofNat 32 t.val)

/-- A position, as a signed word, is its number. -/
theorem toInt_position (hn : n ≤ 2 ^ 31) (t : Fin n) : (BitVec.ofNat 32 t.val).toInt = t.val := by
  have := t.isLt
  have e : (BitVec.ofNat 32 t.val).toNat = t.val := by
    rw [BitVec.toNat_ofNat]; exact Nat.mod_eq_of_lt (by omega)
  rw [BitVec.toInt_eq_toNat_of_lt (by rw [e]; omega), e]

theorem flatKey_lt_iff (hn : n ≤ 2 ^ 31) (x : Fin n → EReal) (t u : Fin n) :
    flatKey x u < flatKey x t ↔ x u < x t ∨ (x t = x u ∧ t < u) := by
  unfold flatKey
  rw [key_lt_iff, toInt_position hn, toInt_position hn, Nat.cast_lt, Fin.lt_def]

theorem flatKey_injective (hn : n ≤ 2 ^ 31) (x : Fin n → EReal) : Function.Injective (flatKey x) := by
  intro t u h
  have h' : (BitVec.ofNat 32 t.val).toInt = (BitVec.ofNat 32 u.val).toInt :=
    congrArg (fun k : Key => OrderDual.ofDual (ofLex k).2) h
  rw [toInt_position hn, toInt_position hn, Nat.cast_inj] at h'
  exact Fin.ext h'

/-- The position of the `k`-th greatest entry. -/
noncomputable def order (x : Fin n → EReal) : Fin n → Fin n := sortedFrom (greaterFirst (flatKey x))

/-- The order is what a stable sort by value alone, greatest first, gives. -/
theorem order_eq_sortedFrom (hn : n ≤ 2 ^ 31) (x : Fin n → EReal) :
    order x = sortedFrom fun a b => decide (x b < x a) := by
  refine (sortedFrom_congr_later _ _ fun a b hab => ?_).symm
  unfold greaterFirst
  rw [Bool.eq_iff_iff, decide_eq_true_eq, decide_eq_true_eq, flatKey_lt_iff hn]
  exact ⟨Or.inl, fun h => h.resolve_right fun h' => absurd h'.2 (not_lt.mpr hab.le)⟩

/-- No entry comes twice in the order. -/
theorem order_injective (x : Fin n → EReal) : Function.Injective (order x) := sortedFrom_injective _

/-- Every entry comes in the order. -/
theorem order_surjective (x : Fin n → EReal) : Function.Surjective (order x) := sortedFrom_surjective _

theorem order_lt (hn : n ≤ 2 ^ 31) (x : Fin n → EReal) {i j : Fin n} (hij : i < j) :
    flatKey x (order x j) < flatKey x (order x i) := by
  have hB := strictTotalBefore_greaterFirst (flatKey x) (flatKey_injective hn x)
  have h := sortedFrom_noInversion (greaterFirst (flatKey x)) (greaterFirst (flatKey x)) (fun a b h => hB.asymm a b h)
    (fun _ _ h => h) hB.negTrans i j hij
  refine lt_of_le_of_ne (not_lt.mp (of_decide_eq_false h)) fun e => ?_
  exact hij.ne' (order_injective x (flatKey_injective hn x e))

/-- The entries in descending order, continued by `−∞`. -/
noncomputable def sorted (x : Fin n → EReal) (k : ℕ) : EReal := if h : k < n then x (order x ⟨k, h⟩) else ⊥

/-- Within the array, the sorted sequence is the array read in its order. -/
theorem sorted_of_lt (x : Fin n → EReal) (k : Fin n) : sorted x k.val = x (order x k) := dif_pos k.isLt

/-- Past the array, the sorted sequence is `-∞`. -/
theorem sorted_end (x : Fin n → EReal) : sorted x n = ⊥ := dif_neg (lt_irrefl n)

/-- The sorted sequence does not increase. -/
theorem sorted_antitone (hn : n ≤ 2 ^ 31) (x : Fin n → EReal) : Antitone (sorted x) := by
  intro i j hij
  by_cases hj : j < n
  · have hi : i < n := hij.trans_lt hj
    rcases hij.eq_or_lt with rfl | hlt
    · exact le_rfl
    unfold sorted
    rw [dif_pos hi, dif_pos hj]
    rcases (flatKey_lt_iff hn x _ _).mp (order_lt hn x (i := ⟨i, hi⟩) (j := ⟨j, hj⟩) hlt) with h | h
    · exact h.le
    · exact h.1.ge
  · unfold sorted
    rw [dif_neg hj]
    exact bot_le

/-- With no entry `+∞`, the sorted sequence has none. -/
theorem sorted_lt_top (x : Fin n → EReal) (hx : ∀ t, x t < ⊤) (k : ℕ) : sorted x k < ⊤ := by
  unfold sorted
  split
  · exact hx _
  · exact bot_lt_top

/-- A rearrangement that never increases is the sorted list. -/
theorem eq_sorted (hn : n ≤ 2 ^ 31) (x : Fin n → EReal) (π : Fin n → Fin n) (hπ : Function.Bijective π)
    (hd : ∀ i j, i < j → x (π j) ≤ x (π i)) (k : Fin n) : x (π k) = sorted x k.val := by
  have perm : ∀ σ : Fin n → Fin n, Function.Bijective σ → (List.ofFn fun i => x (σ i)).Perm (List.ofFn x) := fun σ hσ => by
    exact Equiv.Perm.ofFn_comp_perm (Equiv.ofBijective σ hσ) x
  have h := eq_of_perm_of_descending (l₁ := List.ofFn fun i => x (π i)) (l₂ := List.ofFn fun i => x (order x i))
    ((perm π hπ).trans (perm _ ⟨order_injective x, order_surjective x⟩).symm)
    (List.pairwise_ofFn.mpr fun i j hij => hd i j hij)
    (List.pairwise_ofFn.mpr fun i j hij => by
      have := sorted_antitone hn x (Fin.le_def.mp hij.le)
      rwa [sorted_of_lt, sorted_of_lt] at this)
  rw [sorted_of_lt]
  exact congrFun (List.ofFn_injective h) k

/-- The number of marked positions below a bound reaches every smaller number at a marked position. -/
theorem exists_count (p : ℕ → Prop) [DecidablePred p] (m N : ℕ) (h : m < Nat.count p N) : ∃ t < N, p t ∧ Nat.count p t = m := by
  induction N with
  | zero => simp at h
  | succ N ih =>
    by_cases hm : m < Nat.count p N
    · obtain ⟨t, ht, h1⟩ := ih hm
      exact ⟨t, ht.trans (Nat.lt_succ_self N), h1⟩
    · rw [Nat.count_succ] at h
      split at h
      · next hp => exact ⟨N, Nat.lt_succ_self N, hp, by omega⟩
      · omega

section selection

variable (x : Fin n → EReal) (K : ℕ)

/-- The entry at position `t` is there and is not above the threshold. -/
def Low (t : ℕ) : Prop := ∃ h : t < n, x ⟨t, h⟩ ≤ cut (sorted x) K

/-- The weight of the entry at position `t`. -/
noncomputable def weight (t : Fin n) : EReal := max 0 (x t - cut (sorted x) K)

open Classical in
theorem count_low_add (hn : n ≤ 2 ^ 31) (hx : ∀ t, x t < ⊤) (hK : ∀ k, InSupport (sorted x) k ↔ k < K) (N : ℕ) (hN : N ≤ n) :
    N ≤ Nat.count (Low x K) N + K := by
  have hz := sorted_antitone hn x
  have ht := sorted_lt_top x hx
  have hc : Nat.count (Low x K) N = ((Finset.range N).filter (Low x K)).card := by
    rw [Nat.count_eq_card_filter_range]
  have e : ((Finset.range N).filter (Low x K)).card + ((Finset.range N).filter fun t => ¬ Low x K t).card
      = (Finset.range N).card := Finset.card_filter_add_card_filter_not ..
  rw [Finset.card_range] at e
  have hle : ((Finset.range N).filter fun t => ¬ Low x K t).card ≤ K := by
    have hs : ((Finset.range N).filter fun t => ¬ Low x K t)
        ⊆ (Finset.range K).image fun k => if h : k < n then (order x ⟨k, h⟩).val else 0 := by
      intro t htm
      rw [Finset.mem_filter, Finset.mem_range] at htm
      obtain ⟨h1, h2⟩ := htm
      have htn : t < n := h1.trans_le hN
      obtain ⟨k, hk⟩ := order_surjective x ⟨t, htn⟩
      refine Finset.mem_image.mpr ⟨k.val, ?_, ?_⟩
      · rw [Finset.mem_range]
        by_contra hc
        exact h2 ⟨htn, by rw [← hk, ← sorted_of_lt x]; exact le_cut hz ht hK (not_lt.mp hc)⟩
      · show (if h : k.val < n then (order x ⟨k.val, h⟩).val else 0) = t
        rw [dif_pos k.isLt]
        exact congrArg Fin.val hk
    exact (Finset.card_le_card hs).trans (Finset.card_image_le.trans (Finset.card_range K).le)
  omega

open Classical in
/-- The positions of the greatest weights. -/
theorem order_weight (hn : n ≤ 2 ^ 31) (hx : ∀ t, x t < ⊤) (hK : ∀ k, InSupport (sorted x) k ↔ k < K) {w : ℕ} (hw : w ≤ n)
    (q : Fin w → Fin n) (h1 : ∀ j : Fin w, j.val < K → q j = order x (j.castLE hw))
    (h2 : ∀ j : Fin w, K ≤ j.val → Low x K (q j).val ∧ Nat.count (Low x K) (q j).val = j.val - K) (j : Fin w) :
    order (weight x K) (j.castLE hw) = q j := by
  have hz := sorted_antitone hn x
  have ht := sorted_lt_top x hx
  -- a rank of the support comes before every later rank
  have hA : ∀ i k : Fin n, i.val < K → i < k →
      flatKey (weight x K) (order x k) < flatKey (weight x K) (order x i) := fun i k hi hik => by
    have hc : cut (sorted x) K < x (order x i) := by
      rw [← sorted_of_lt x]; exact cut_lt hz ht hK hi
    rw [flatKey_lt_iff hn]
    rcases (flatKey_lt_iff hn x _ _).mp (order_lt hn x hik) with h | ⟨h, h'⟩
    · exact Or.inl (weight_lt hz ht hK (hx _) h hc (Nat.zero_lt_of_lt hi))
    · refine Or.inr ⟨?_, h'⟩
      unfold weight
      rw [h]
  -- of two entries that are not above the threshold the earlier one comes first
  have hB : ∀ t u : Fin n, Low x K t.val → Low x K u.val → t < u →
      flatKey (weight x K) u < flatKey (weight x K) t := fun t u h h' htu => by
    rw [flatKey_lt_iff hn]
    refine Or.inr ⟨?_, htu⟩
    obtain ⟨_, h⟩ := h
    obtain ⟨_, h'⟩ := h'
    exact (weight_zero hz ht hK h).trans (weight_zero hz ht hK h').symm
  have hrank : ∀ k : Fin n, Low x K (order x k).val ↔ K ≤ k.val := fun k => by
    constructor
    · rintro ⟨_, h⟩
      by_contra hc
      have := cut_lt hz ht hK (not_le.mp hc)
      rw [sorted_of_lt] at this
      exact absurd this (not_lt.mpr h)
    · intro h
      exact ⟨(order x k).isLt, by have := le_cut hz ht hK h; rwa [sorted_of_lt] at this⟩
  have hlow : ∀ u : Fin n, Low x K u.val → ∃ k : Fin n, K ≤ k.val ∧ order x k = u := fun u hu => by
    obtain ⟨k, rfl⟩ := order_surjective x u
    exact ⟨k, (hrank k).mp hu, rfl⟩
  have hord : ∀ i j : Fin w, i < j → flatKey (weight x K) (q j) < flatKey (weight x K) (q i) := fun i j hij => by
    by_cases hi : i.val < K
    · rw [h1 i hi]
      by_cases hj : j.val < K
      · rw [h1 j hj]
        exact hA _ _ hi hij
      · obtain ⟨k, hk, e⟩ := hlow (q j) (h2 j (not_lt.mp hj)).1
        rw [← e]
        exact hA _ _ hi (Fin.lt_def.mpr (lt_of_lt_of_le hi hk))
    · have hi' := h2 i (not_lt.mp hi)
      have hj' := h2 j ((not_lt.mp hi).trans (Fin.lt_def.mp hij).le)
      refine hB _ _ hi'.1 hj'.1 ?_
      by_contra hc
      have hm := Nat.count_monotone (Low x K) (Fin.le_def.mp (not_lt.mp hc))
      rw [hi'.2, hj'.2] at hm
      have : i.val < j.val := hij
      omega
  refine (strictTotalBefore_greaterFirst _ (flatKey_injective hn _)).sortedFrom_eq_of_prefix hw q ?_ ?_ ?_ j
  · intro i j e
    by_contra hne
    rcases lt_or_gt_of_ne hne with h | h
    · have := hord i j h; rw [e] at this; exact lt_irrefl _ this
    · have := hord j i h; rw [e] at this; exact lt_irrefl _ this
  · intro i j hij
    exact decide_eq_false (not_lt.mpr (hord i j hij).le)
  · intro i u hu
    refine decide_eq_false (not_lt.mpr (le_of_lt ?_))
    obtain ⟨k, rfl⟩ := order_surjective x u
    by_cases hk : k.val < K
    · have hkw : w ≤ k.val := by
        by_contra hc
        exact hu ⟨k.val, not_le.mp hc⟩ (h1 ⟨k.val, not_le.mp hc⟩ hk)
      have hik : i.val < k.val := i.isLt.trans_le hkw
      rw [h1 i (hik.trans hk)]
      exact hA _ _ (hik.trans hk) hik
    · have hku := (hrank k).mpr (not_lt.mp hk)
      by_cases hi : i.val < K
      · rw [h1 i hi]
        exact hA _ _ hi (Fin.lt_def.mpr (lt_of_lt_of_le hi (not_lt.mp hk)))
      · have hi' := h2 i (not_lt.mp hi)
        refine hB _ _ hi'.1 hku ?_
        rcases lt_trichotomy (q i) (order x k) with h | h | h
        · exact h
        · exact absurd h (hu i)
        · have hc := Nat.count_strict_mono hku (Fin.lt_def.mp h)
          rw [hi'.2] at hc
          have hiw := i.isLt
          have hj : K + Nat.count (Low x K) (order x k).val < w := by omega
          have hj' := h2 ⟨_, hj⟩ (Nat.le_add_right _ _)
          refine absurd (Fin.ext (Nat.count_injective hj'.1 hku ?_)) (hu ⟨_, hj⟩)
          rw [hj'.2]
          exact Nat.add_sub_cancel_left ..

end selection

end Cert.Sparse
-- ==== Proof.Top.lean ====
/-
  The 64 greatest of all entries.  The input's 32768 entries lie in 256 rows of 128 lanes; the kernel numbers them row by row,
  and after its sorting phases the one remaining lane holds the first 64 of them in descending order (`topVal_apply`,
  `topIdx_apply`).
-/
module

public import proofs.«01_k».proof.Proof.Phase3
public import proofs.«01_k».proof.Proof.Rank
public import Idealize.ShloMosaic.Lib.VecWindow

@[expose] public section

namespace Cert.Sparse

open Idealize.ShloMosaic Idealize.ShloMosaic.TcCoe Idealize.ShloMosaic.Pointwise Idealize.ShloMosaic.SortNet Cert.KernelIdeal
  Cert.KernelIdeal.Gen

/-- The entries of the input, row by row. -/
def flat (x0 : Vec Ideal S256x128 .f32) (t : Fin 32768) : EReal :=
  x0 (ix2 (⟨t.val / 128, by omega⟩ : Fin 256) (⟨t.val % 128, by omega⟩ : Fin 128))

/-- What the body loads is the input. -/
theorem loaded_eq (c : Dev nD) (arg0 : Memref sig .tc .vmem S256x128 .f32) (harg0 : arg0.IsWhole) (x0 : Vec Ideal S256x128 .f32) :
    kernelRun0_A.sl.r (F := Ideal) c arg0 harg0 x0 = x0 := by
  unfold kernelRun0_A.sl.r k0_pay1
  dsimp only
  rw [shapeCast_self]
  exact (View.readAt_full arg0.view (harg0.unread x0) _).trans (harg0.read_unread x0)

/-- The kernel's number of the entry in row `r` and lane `l`. -/
theorem number_apply (r : Fin 256) (l : Fin 128) : k0_pay2 (ix2 r l) = BitVec.ofNat 32 (r.val * 128 + l.val) := by
  show BitVec.ofNat 32 (0 * 256 + r.val) * 128#32 + BitVec.ofNat 32 (0 * 128 + l.val) = _
  rw [Nat.zero_mul, Nat.zero_add, Nat.zero_add, ← BitVec.ofNat_mul, ← BitVec.ofNat_add]

/-- The key of an entry is its score with the number row times 128 plus column. -/
theorem entry_apply (x0 : Vec Ideal S256x128 .f32) (r : Fin (2 ^ 8)) (l : Fin 128) :
    colKey rows256 (x0 : FVec Ideal S256x128 .f32) k0_pay2 l r
      = flatKey (flat x0) ⟨r.val * 128 + l.val, by have := r.isLt; have := l.isLt; omega⟩ := by
  have hr : r.val < 256 := r.isLt
  have hl := l.isLt
  unfold colKey flatKey flat
  rw [number_apply]
  refine congrArg₂ key (congrArg x0 (congrArg₂ ix2 (Fin.ext ?_) (Fin.ext ?_))) rfl
  · show r.val = (r.val * 128 + l.val) / 128
    omega
  · show l.val = (r.val * 128 + l.val) % 128
    omega

theorem ofFn_eq_sum {α : Type} {n : ℕ} (f : Fin n → α) : (List.ofFn f : Multiset α) = ∑ i, {f i} := by
  rw [← Fin.univ_val_map]
  have h := Multiset.sum_map_singleton ((Finset.univ : Finset (Fin n)).val.map f)
  rw [Multiset.map_map] at h
  exact h.symm

/-- The entries lane by lane are the entries row by row. -/
theorem lanes_eq_flat (x0 : Vec Ideal S256x128 .f32) :
    ∑ l : Fin 128, (List.ofFn (colKey rows256 (x0 : FVec Ideal S256x128 .f32) k0_pay2 l) : Multiset Key)
      = (List.ofFn (flatKey (flat x0)) : Multiset Key) := by
  simp only [ofFn_eq_sum]
  rw [Finset.sum_comm, ← Fintype.sum_prod_type']
  refine Fintype.sum_equiv (finProdFinEquiv (m := 256) (n := 128)) _ _ fun p => ?_
  obtain ⟨r, l⟩ := p
  rw [entry_apply]
  refine congrArg (fun t => ({flatKey (flat x0) t} : Multiset Key)) (Fin.ext ?_)
  show r.val * 128 + l.val = l.val + 128 * r.val
  omega

/-- A key determines its value and its position. -/
theorem key_inj {a b : EReal} {i j : BitVec 32} (h : key a i = key b j) : a = b ∧ i = j :=
  ⟨congrArg (fun k : Key => (ofLex k).1) h,
    BitVec.toInt_inj.mp (congrArg (fun k : Key => OrderDual.ofDual (ofLex k).2) h)⟩

theorem first64 : 64 ≤ 32768 := by norm_num

theorem positions_le : 32768 ≤ 2 ^ 31 := by norm_num

variable (c : Dev nD) (arg0 : Memref sig .tc .vmem S256x128 .f32) (harg0 : arg0.IsWhole) (x0 : Vec Ideal S256x128 .f32)

theorem top_entry (j : Fin 64) :
    key (topVal c arg0 harg0 x0 (ix2 j (0 : Fin 1))) (topIdx c arg0 harg0 x0 (ix2 j (0 : Fin 1)))
      = flatKey (flat x0) (order (flat x0) (j.castLE first64)) := by
  have hbase : Holds (List.ofFn (flatKey (flat x0)) : Multiset Key)
      (colKey rows64 (kernelRun0_A.sl.r_159 (F := Ideal) c arg0 harg0 x0) (kernelRun0_A.sl.r_160 c arg0 harg0 x0)) := by
    refine ⟨fun l => List.ofFn (colKey rows256 (x0 : FVec Ideal S256x128 .f32) k0_pay2 l), fun l => ?_, lanes_eq_flat x0⟩
    have h := phase2_holds c arg0 harg0 x0 l
    rw [loaded_eq] at h
    exact h
  have h := (phase3_holds c arg0 harg0 x0 hbase).last
  have e := entry_sortedFrom_eq_topList (flatKey (flat x0)) (flatKey_injective positions_le _) 64
    (j.castLE first64) (show (j.castLE first64).val < 64 from j.isLt)
  rw [show topList 64 (List.ofFn (flatKey (flat x0))) = _ from h.symm] at e
  have hj : (j.castLE first64).val < 2 ^ 6 := j.isLt
  rw [List.getElem?_ofFn, dif_pos hj] at e
  exact (Option.some.inj e).symm

/-- The kernel's sorted values are the first 64 of the sorted entries. -/
theorem topVal_apply (j : Fin 64) : topVal c arg0 harg0 x0 (ix2 j (0 : Fin 1)) = sorted (flat x0) j.val := by
  exact (key_inj (top_entry c arg0 harg0 x0 j)).1.trans (sorted_of_lt (flat x0) (j.castLE first64)).symm

/-- Beside them stand their positions. -/
theorem topIdx_apply (j : Fin 64) :
    topIdx c arg0 harg0 x0 (ix2 j (0 : Fin 1)) = BitVec.ofNat 32 (order (flat x0) (j.castLE first64)).val :=
  (key_inj (top_entry c arg0 harg0 x0 j)).2

end Cert.Sparse
-- ==== Proof.Sums.lean ====
/-
  Sums of small tables.  The kernel's last phase works with square tables and adds up their columns or rows: along a
  diagonal, below it, or over the positions where something holds.  Each such sum is read here at an index.
-/
module

public import proofs.«01_k».proof.Proof.Rank
public import Idealize.ShloMosaic.Lib.Pointwise
public import Idealize.ShloMosaic.Lib.WordCmp
public import Idealize.ShloMosaic.Lib.Pipeline.Value
public import Mathlib.Data.BitVec

@[expose] public section

namespace Cert.Sparse

open Idealize.ShloMosaic Idealize.ShloMosaic.Pointwise

/-- A fold of word additions is a sum of words. -/
theorem fold_addi {ι : Type*} (s : Finset ι) (f : ι → BitVec 32) : s.fold IntOp.addi 0#32 f = ∑ i ∈ s, f i := by
  rw [Finset.sum_eq_fold]
  rfl

/-- The column sums of a table of words. -/
theorem wordCols_apply {a b : ℕ} (v : IVec ⟨2, ![a, b]⟩ 32)
    (h : (⟨2, ![a, b]⟩ : Shape).Reduces [0] ⟨1, ![b]⟩) (c : Fin b) :
    multiReductionI .add [0] ⟨1, ![b]⟩ v 0#32 h rfl (ix1 c) = ∑ r : Fin a, v (ix2 r c) := by
  refine (multiReductionI_eq_fold .add v 0#32 h rfl _).trans ?_
  refine (h.fold_fiber_r2_a0 (ix1 c) IntOp.addi 0#32 v).trans (fold_addi _ _)

/-- The row sums of a table of words. -/
theorem wordRows_apply {a b : ℕ} (v : IVec ⟨2, ![a, b]⟩ 32)
    (h : (⟨2, ![a, b]⟩ : Shape).Reduces [1] ⟨1, ![a]⟩) (r : Fin a) :
    multiReductionI .add [1] ⟨1, ![a]⟩ v 0#32 h rfl (ix1 r) = ∑ c : Fin b, v (ix2 r c) := by
  refine (multiReductionI_eq_fold .add v 0#32 h rfl _).trans ?_
  refine (h.fold_fiber_r2_a1 (ix1 r) IntOp.addi 0#32 v).trans (fold_addi _ _)

/-- The sum of a single row of words. -/
theorem wordAll_apply {b : ℕ} (v : IVec ⟨3, ![1, 1, b]⟩ 32)
    (h : (⟨3, ![1, 1, b]⟩ : Shape).Reduces [1, 2] ⟨1, ![1]⟩) (r : Fin 1) :
    multiReductionI .add [1, 2] ⟨1, ![1]⟩ v 0#32 h rfl (ix1 r) = ∑ c : Fin b, v (ix3 (0 : Fin 1) (0 : Fin 1) c) := by
  refine (multiReductionI_eq_fold .add v 0#32 h rfl _).trans ?_
  refine ((h.fold_fiber_r3_a12 (ix1 r) IntOp.addi 0#32 v).trans (fold_addi _ _)).trans ?_
  rw [Fintype.sum_prod_type, Fin.sum_univ_one]
  refine Finset.sum_congr rfl fun c _ => congrArg v ?_
  refine congrArg (fun u => ix3 u (0 : Fin 1) c) (Subsingleton.elim _ _)

/-- The column sums of a table of numbers. -/
theorem cols_apply {a b : ℕ} (v : FVec Ideal ⟨2, ![a, b]⟩ .f32)
    (h : (⟨2, ![a, b]⟩ : Shape).Reduces [0] ⟨1, ![b]⟩) (c : Fin b) :
    multiReduction (F := Ideal) .add [0] ⟨1, ![b]⟩ v 0x00000000#32 h (.inl rfl) rfl (ix1 c) = ∑ r : Fin a, (v (ix2 r c) : EReal) :=
  Ideal.reduceAdd_r2_a0 h v (ix1 c)

/-- The sum of a single row of numbers. -/
theorem all_apply {b : ℕ} (v : FVec Ideal ⟨3, ![1, 1, b]⟩ .f32)
    (h : (⟨3, ![1, 1, b]⟩ : Shape).Reduces [1, 2] ⟨1, ![1]⟩) (r : Fin 1) :
    multiReduction (F := Ideal) .add [1, 2] ⟨1, ![1]⟩ v 0x00000000#32 h (.inl rfl) rfl (ix1 r)
      = ∑ c : Fin b, (v (ix3 (0 : Fin 1) (0 : Fin 1) c) : EReal) := by
  refine (Ideal.reduceAdd_r3_a12 h v (ix1 r)).trans ?_
  rw [Fin.sum_univ_one]
  refine Finset.sum_congr rfl fun c _ => congrArg v ?_
  refine congrArg (fun u => ix3 u (0 : Fin 1) c) (Subsingleton.elim _ _)

/-- A choice whose condition is decided by a proposition. -/
theorem choose_apply {s : Shape} {α : Type} (m : IVec s 1) (x y : s.Idx → α) (i : s.Idx) (p : Prop) [Decidable p]
    (h : m i = BitVec.ofBool (decide p)) : select m x y i = if p then x i else y i := by
  show (if m i = 1 then x i else y i) = _
  rw [h]
  by_cases hp : p
  · rw [decide_eq_true hp, if_pos hp]; exact if_pos rfl
  · rw [decide_eq_false hp, if_neg hp]; exact if_neg (by decide)

/-- A sum of ones over the positions where something holds counts them. -/
theorem sum_ones {n : ℕ} (p : Fin n → Prop) [DecidablePred p] :
    ∑ i, (if p i then 1#32 else 0#32) = BitVec.ofNat 32 (Finset.univ.filter p).card := by
  have h := Finset.sum_boole (R := BitVec 32) p Finset.univ
  exact h.trans (BitVec.natCast_eq_ofNat ..)

/-- Counting positions up to `t` where something holds. -/
theorem card_upTo {n : ℕ} (p : ℕ → Prop) [DecidablePred p] (t : Fin n) :
    (Finset.univ.filter fun k : Fin n => p k.val ∧ k.val ≤ t.val).card = Nat.count p (t.val + 1) := by
  rw [Nat.count_eq_card_filter_range, ← Finset.card_map Fin.valEmbedding]
  congr 1
  ext k
  simp only [Finset.mem_map, Finset.mem_filter, Finset.mem_univ, true_and, Finset.mem_range, Fin.valEmbedding_apply]
  constructor
  · rintro ⟨i, ⟨h1, h2⟩, rfl⟩; exact ⟨by omega, h1⟩
  · rintro ⟨h1, h2⟩; exact ⟨⟨k, by have := t.isLt; omega⟩, ⟨h2, by show k ≤ t.val; omega⟩, rfl⟩

/-- A sum over the first positions of a row. -/
theorem sum_upTo {n : ℕ} (z : ℕ → EReal) (t : Fin n) :
    ∑ k : Fin n, (if k.val ≤ t.val then z k.val else 0) = upTo z t.val := by
  unfold upTo
  rw [Fin.sum_univ_eq_sum_range (fun k => if k ≤ t.val then z k else 0) n, ← Finset.sum_filter]
  refine Finset.sum_congr ?_ fun _ _ => rfl
  ext k
  have := t.isLt
  simp only [Finset.mem_filter, Finset.mem_range]
  omega

/-- Of `n` positions the first `K` are counted. -/
theorem card_below {n : ℕ} (K : ℕ) : (Finset.univ.filter fun k : Fin n => k.val < K).card = min K n := by
  rw [← Finset.card_map Fin.valEmbedding, ← Finset.card_range (min K n)]
  congr 1
  ext k
  simp only [Finset.mem_map, Finset.mem_filter, Finset.mem_univ, true_and, Finset.mem_range, Fin.valEmbedding_apply]
  constructor
  · rintro ⟨i, h, rfl⟩; have := i.isLt; omega
  · intro h; exact ⟨⟨k, by omega⟩, by show k < K; omega, rfl⟩

/-- A column spread over a table. -/
theorem spreadCol_apply {α : Type} {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h _ _ fun i => ?_
  match i with
  | ⟨0, _⟩ =>
    show r.val = if a = 1 then 0 else r.val
    split
    · have := r.isLt; omega
    · rfl
  | ⟨1, _⟩ => rfl

/-- A row spread over a table. -/
theorem spreadRow_apply {α : Type} {a b : ℕ} (x : (⟨2, ![1, b]⟩ : Shape).Idx → α)
    (h : (⟨2, ![1, b]⟩ : Shape).Broadcasts ⟨2, ![a, b]⟩) (r : Fin a) (c : Fin b) :
    broadcastTo ⟨2, ![a, b]⟩ x h (ix2 r c) = x (ix2 (0 : Fin 1) c) := by
  refine broadcastTo_apply x h _ _ fun i => ?_
  match i with
  | ⟨0, _⟩ => rfl
  | ⟨1, _⟩ =>
    show c.val = if b = 1 then 0 else c.val
    split
    · have := c.isLt; omega
    · rfl

/-- A single entry spread over a table. -/
theorem spreadOne_apply {α : Type} {a b : ℕ} (x : (⟨2, ![1, 1]⟩ : Shape).Idx → α)
    (h : (⟨2, ![1, 1]⟩ : Shape).Broadcasts ⟨2, ![a, b]⟩) (r : Fin a) (c : Fin b) :
    broadcastTo ⟨2, ![a, b]⟩ x h (ix2 r c) = x (ix2 (0 : Fin 1) (0 : Fin 1)) := by
  refine broadcastTo_apply x h _ _ fun i => ?_
  match i with
  | ⟨0, _⟩ => rfl
  | ⟨1, _⟩ => rfl

/-- A vector laid out as a row. -/
theorem asRow_apply {α : Type} {b : ℕ} (x : (⟨1, ![b]⟩ : Shape).Idx → α)
    (h : (⟨1, ![b]⟩ : Shape).ShapeCasts ⟨2, ![1, b]⟩) (c : Fin b) :
    shapeCast ⟨2, ![1, b]⟩ x h (ix2 (0 : Fin 1) c) = x (ix1 c) := by
  refine shapeCast_apply x h _ _ ?_
  rw [Shape.rowMajor_val_one, Shape.rowMajor_val_two]
  show c.val = 0 * b + c.val
  omega

/-- A vector laid out as a column. -/
theorem asCol_apply {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) := by
  refine shapeCast_apply x h _ _ ?_
  rw [Shape.rowMajor_val_one, Shape.rowMajor_val_two]
  show r.val = r.val * 1 + 0
  omega

/-- A row under one more unit axis. -/
theorem asSlab_apply {α : Type} {b : ℕ} (x : (⟨2, ![1, b]⟩ : Shape).Idx → α)
    (h : (⟨2, ![1, b]⟩ : Shape).ShapeCasts ⟨3, ![1, 1, b]⟩) (c : Fin b) :
    shapeCast ⟨3, ![1, 1, b]⟩ x h (ix3 (0 : Fin 1) (0 : Fin 1) c) = x (ix2 (0 : Fin 1) c) := by
  refine shapeCast_apply x h _ _ ?_
  rw [Shape.rowMajor_val_two, Shape.rowMajor_val_three]
  show 0 * b + c.val = (0 * 1 + 0) * b + c.val
  omega

/-- The one entry of a vector of length one, laid out with three axes. -/
theorem asPoint_apply {α : Type} (x : (⟨1, ![1]⟩ : Shape).Idx → α)
    (h : (⟨1, ![1]⟩ : Shape).ShapeCasts ⟨3, ![1, 1, 1]⟩) (inb : ∀ a, (![0, 0, 0] : Fin 3 → ℕ) a < (⟨3, ![1, 1, 1]⟩ : Shape).size a) :
    extractAt (s := ⟨3, ![1, 1, 1]⟩) ![0, 0, 0] (shapeCast ⟨3, ![1, 1, 1]⟩ x h) inb = x (ix1 (0 : Fin 1)) := by
  refine shapeCast_apply x h _ _ ?_
  rw [Shape.rowMajor_val_one, Shape.rowMajor_val_three]
  rfl

/-- A vector of consecutive words along the columns of a table. -/
theorem colWord_apply {a b : ℕ} (h : (⟨2, ![a, b]⟩ : Shape).Iotas .tc 32 [1]) (r : Fin a) (c : Fin b) :
    iota .tc ⟨2, ![a, b]⟩ 32 [1] h (ix2 r c) = BitVec.ofNat 32 c.val := by
  show BitVec.ofNat 32 (0 * b + c.val) = _
  rw [Nat.zero_mul, Nat.zero_add]

/-- A vector of consecutive words along the rows of a table. -/
theorem rowWord_apply {a b : ℕ} (h : (⟨2, ![a, b]⟩ : Shape).Iotas .tc 32 [0]) (r : Fin a) (c : Fin b) :
    iota .tc ⟨2, ![a, b]⟩ 32 [0] h (ix2 r c) = BitVec.ofNat 32 r.val := by
  show BitVec.ofNat 32 (0 * a + r.val) = _
  rw [Nat.zero_mul, Nat.zero_add]

end Cert.Sparse
-- ==== Proof.Support.lean ====
/-
  The support among the 64 greatest.  From the sorted values the kernel lays out their prefix sums in a row, counts the ranks
  in the support, and picks the prefix sum of the last of them.
-/
module

public import proofs.«01_k».proof.Proof.Sums
public import proofs.«01_k».proof.Proof.Gen.KernelIdeal.Skeleton

@[expose] public section

namespace Cert.Sparse

open Idealize.ShloMosaic Idealize.ShloMosaic.TcCoe Idealize.ShloMosaic.Pointwise Idealize.ShloMosaic.WordCmp Cert.KernelIdeal
  Cert.KernelIdeal.Gen

/-- A number of at most four digits is a nonnegative word. -/
theorem small_word {a : ℕ} (h : a < 10000) : a < 2 ^ (32 - 1) := h.trans (by norm_num)

/-- A number of at most four digits fits a word. -/
theorem small_word' {a : ℕ} (h : a < 10000) : a < 2 ^ 32 := h.trans (by norm_num)

/-- The row numbers of the table of 64 rows. -/
abbrev rowNo : IVec S64x64 32 := iota .tc S64x64 32 [0] iota_S64x64_d0_w32

/-- The column numbers of the table of 64 rows. -/
abbrev colNo : IVec S64x64 32 := iota .tc S64x64 32 [1] iota_S64x64_d1_w32

/-- The mask of the diagonal. -/
theorem diagonal (r c : Fin 64) : cmpi .eq rowNo colNo (ix2 r c) = BitVec.ofBool (decide (r = c)) := by
  show IntOp.cmpi .eq (rowNo (ix2 r c)) (colNo (ix2 r c)) = _
  rw [show rowNo (ix2 r c) = _ from rowWord_apply _ r c, show colNo (ix2 r c) = _ from colWord_apply _ r c,
    cmpi_eq_ofNat (small_word' (by omega)) (small_word' (by omega))]
  exact congrArg BitVec.ofBool (decide_eq_decide.mpr Fin.ext_iff.symm)

/-- The mask of the entries on or above the diagonal. -/
theorem aboveDiagonal (r c : Fin 64) : cmpi .sle rowNo colNo (ix2 r c) = BitVec.ofBool (decide (r.val ≤ c.val)) := by
  show IntOp.cmpi .sle (rowNo (ix2 r c)) (colNo (ix2 r c)) = _
  rw [show rowNo (ix2 r c) = _ from rowWord_apply _ r c, show colNo (ix2 r c) = _ from colWord_apply _ r c,
    cmpi_sle_ofNat (small_word (by omega)) (small_word (by omega))]

/-- The positions of the sorted entries, turned into a row. -/
theorem posRow_apply (g : Vec Ideal S64x1 .i32) (j : Fin 64) :
    k0_pay686 (F := Ideal) g rowNo colNo (ix2 (0 : Fin 1) j) = (g (ix2 j (0 : Fin 1)) : BitVec 32) := by
  unfold k0_pay686
  dsimp only
  refine (asRow_apply _ _ j).trans ((wordCols_apply _ _ j).trans ?_)
  have e : ∀ r : Fin 64, select (cmpi .eq rowNo colNo)
      (broadcastTo S64x64 (shapeCast S64x1 (g : IVec S64x1 32) shapeCasts_S64x1_S64x1) broadcasts_S64x1_S64x64)
      (broadcast S64x64 0#32) (ix2 r j) = if r = j then (g (ix2 r (0 : Fin 1)) : BitVec 32) else 0#32 := fun r => by
    rw [choose_apply _ _ _ _ _ (diagonal r j), shapeCast_self]
    exact if_congr Iff.rfl (spreadCol_apply _ _ r j) rfl
  refine (Finset.sum_congr rfl fun r _ => e r).trans ?_
  exact (Finset.sum_ite_eq' Finset.univ j _).trans (if_pos (Finset.mem_univ j))

/-- The one entry of an array of one, spread to a table of one entry. -/
theorem point_apply {α : Type} (x : S1.Idx → α) :
    broadcast S1x1 (extractAt ![0, 0, 0] (shapeCast S1x1x1 x shapeCasts_S1_S1x1x1) inpos_S1x1x1_p0_0_0)
      (ix2 (0 : Fin 1) (0 : Fin 1)) = x (ix1 (0 : Fin 1)) := asPoint_apply x _ _

/-- The sum of a row of words, as the kernel takes it. -/
theorem wordTotal_apply (m : IVec S1x64 32) :
    (broadcast S1x1 (extractAt ![0, 0, 0] (shapeCast S1x1x1 (multiReductionI .add [1, 2] S1
      (shapeCast S1x1x64 m shapeCasts_S1x64_S1x1x64) 0#32 reduces_S1x1x64_S1 rfl) shapeCasts_S1_S1x1x1) inpos_S1x1x1_p0_0_0)
      : IVec S1x1 32) (ix2 (0 : Fin 1) (0 : Fin 1)) = ∑ j : Fin 64, m (ix2 (0 : Fin 1) j) := by
  refine (point_apply (α := BitVec 32) _).trans ?_
  have h := wordAll_apply (shapeCast S1x1x64 m shapeCasts_S1x64_S1x1x64) reduces_S1x1x64_S1 (0 : Fin 1)
  refine h.trans (Finset.sum_congr rfl fun j _ => asSlab_apply m _ j)

/-- The sum of a row of numbers, as the kernel takes it. -/
theorem total_apply (m : FVec Ideal S1x64 .f32) :
    (broadcast S1x1 (extractAt ![0, 0, 0] (shapeCast S1x1x1 (multiReduction (F := Ideal) .add [1, 2] S1
      (shapeCast S1x1x64 m shapeCasts_S1x64_S1x1x64) 0x00000000#32 reduces_S1x1x64_S1 (.inl rfl) rfl) shapeCasts_S1_S1x1x1)
      inpos_S1x1x1_p0_0_0) : FVec Ideal S1x1 .f32) (ix2 (0 : Fin 1) (0 : Fin 1)) = ∑ j : Fin 64, (m (ix2 (0 : Fin 1) j) : EReal) :=
  (asPoint_apply _ _ _).trans ((all_apply _ _ _).trans (Finset.sum_congr rfl fun j _ => asSlab_apply m _ j))

/-- A small number as a word and back. -/
theorem word_real (t : ℕ) (h : t < 10000) : (((BitVec.ofNat 32 t).toInt : ℝ) : EReal) = ((t : ℝ) : EReal) := by
  rw [toInt_ofNat_of_lt (small_word h)]
  rfl

variable {z : ℕ → EReal} (V : FVec Ideal S64x1 .f32) (hV : ∀ j : Fin 64, V (ix2 j (0 : Fin 1)) = z j.val)

include hV

/-- The prefix sums of the sorted values, as a row. -/
theorem prefixRow_apply (j : Fin 64) : k0_pay687 (F := Ideal) rowNo colNo V (ix2 (0 : Fin 1) j) = upTo z j.val := by
  unfold k0_pay687 k0_pay685
  dsimp only
  refine (asRow_apply _ _ j).trans ((cols_apply _ _ j).trans ?_)
  rw [← sum_upTo z j]
  refine Finset.sum_congr rfl fun r _ => ?_
  rw [choose_apply _ _ _ _ _ (aboveDiagonal r j)]
  exact if_congr Iff.rfl ((spreadCol_apply _ _ r j).trans (hV r)) Ideal.ofBits_zero_f32

/-- The sorted values, as a row. -/
theorem valueRow_apply (j : Fin 64) :
    shapeCast S1x64 (multiReduction (F := Ideal) .add [0] S64 (select (cmpi .eq rowNo colNo) (k0_pay685 V)
      (broadcast S64x64 (Scalar.ofBits .f32 0x00000000#32 : Ideal .f32))) 0x00000000#32 reduces_S64x64_S64 (.inl rfl) rfl)
      shapeCasts_S64_S1x64 (ix2 (0 : Fin 1) j) = z j.val := by
  unfold k0_pay685
  refine (asRow_apply _ _ j).trans ((cols_apply _ _ j).trans ?_)
  have e : ∀ r : Fin 64, select (cmpi .eq rowNo colNo) (broadcastTo S64x64 V broadcasts_S64x1_S64x64)
      (broadcast S64x64 (Scalar.ofBits .f32 0x00000000#32 : Ideal .f32)) (ix2 r j) = if r = j then z r.val else (0 : EReal) := fun r => by
    rw [choose_apply _ _ _ _ _ (diagonal r j)]
    exact if_congr Iff.rfl ((spreadCol_apply _ _ r j).trans (hV r)) Ideal.ofBits_zero_f32
  refine (Finset.sum_congr rfl fun r _ => e r).trans ?_
  exact (Finset.sum_ite_eq' Finset.univ j _).trans (if_pos (Finset.mem_univ j))

variable {K : ℕ} (hK : ∀ k, InSupport z k ↔ k < K)

include hK

/-- The number of ranks among the first 64 that are in the support. -/
theorem length_apply :
    k0_pay688 (F := Ideal) rowNo colNo V (ix2 (0 : Fin 1) (0 : Fin 1)) = BitVec.ofNat 32 (min K 64) := by
  unfold k0_pay688
  dsimp only
  refine (wordTotal_apply _).trans ?_
  rw [← card_below, ← sum_ones]
  refine Finset.sum_congr rfl fun j _ => ?_
  show BitVec.setWidth 32 (BitVec.ofBool (decide (Ideal.ofBits .f32 0x00000000#32 <
    shapeCast S1x64 (multiReduction (F := Ideal) .add [0] S64 (select (cmpi .eq rowNo colNo) (k0_pay685 V)
      (broadcast S64x64 (Scalar.ofBits .f32 0x00000000#32 : Ideal .f32))) 0x00000000#32 reduces_S64x64_S64 (.inl rfl) rfl)
      shapeCasts_S64_S1x64 (ix2 (0 : Fin 1) j)
    - Ideal.div (k0_pay687 (F := Ideal) rowNo colNo V (ix2 (0 : Fin 1) j) - Ideal.ofBits .f32 0x3F800000#32)
      (((iota .tc S1x64 32 [1] iota_S1x64_d1_w32 (ix2 (0 : Fin 1) j) + 1#32 : BitVec 32).toInt : ℝ) : EReal)))) = _
  have hw : (iota .tc S1x64 32 [1] iota_S1x64_d1_w32 (ix2 (0 : Fin 1) j) + 1#32 : BitVec 32) = BitVec.ofNat 32 (j.val + 1) := by
    rw [show iota .tc S1x64 32 [1] iota_S1x64_d1_w32 (ix2 (0 : Fin 1) j) = _ from colWord_apply _ (0 : Fin 1) j, BitVec.ofNat_add]
  rw [hw, valueRow_apply V hV j, prefixRow_apply V hV j, Ideal.ofBits_zero_f32, Ideal.ofBits_one_f32,
    word_real _ (by omega), Nat.cast_succ]
  have h := hK j.val
  unfold InSupport at h
  by_cases hp : j.val < K
  · rw [decide_eq_true (h.mpr hp), if_pos hp]; rfl
  · rw [decide_eq_false (fun q => hp (h.mp q)), if_neg hp]; rfl

/-- The prefix sum of the last rank of the support among the first 64. -/
theorem lastPrefix_apply :
    k0_pay689 (F := Ideal) rowNo colNo V (ix2 (0 : Fin 1) (0 : Fin 1))
      = if K = 0 then (0 : EReal) else upTo z (min K 64 - 1) := by
  unfold k0_pay689
  dsimp only
  refine (total_apply _).trans ?_
  have e : ∀ j : Fin 64, (select (cmpi .eq (iota .tc S1x64 32 [1] iota_S1x64_d1_w32)
      (broadcastTo S1x64 (subi (k0_pay688 (F := Ideal) rowNo colNo V) (broadcast S1x1 1#32)) broadcasts_S1x1_S1x64))
      (k0_pay687 (F := Ideal) rowNo colNo V) (broadcast S1x64 (Scalar.ofBits .f32 0x00000000#32 : Ideal .f32)))
      (ix2 (0 : Fin 1) j) = if j.val + 1 = min K 64 then upTo z j.val else (0 : EReal) := fun j => by
    have hm : cmpi .eq (iota .tc S1x64 32 [1] iota_S1x64_d1_w32)
        (broadcastTo S1x64 (subi (k0_pay688 (F := Ideal) rowNo colNo V) (broadcast S1x1 1#32)) broadcasts_S1x1_S1x64)
        (ix2 (0 : Fin 1) j) = BitVec.ofBool (decide (j.val + 1 = min K 64)) := by
      show IntOp.cmpi .eq (iota .tc S1x64 32 [1] iota_S1x64_d1_w32 (ix2 (0 : Fin 1) j))
        (broadcastTo S1x64 (subi (k0_pay688 (F := Ideal) rowNo colNo V) (broadcast S1x1 1#32)) broadcasts_S1x1_S1x64
          (ix2 (0 : Fin 1) j)) = _
      rw [show iota .tc S1x64 32 [1] iota_S1x64_d1_w32 (ix2 (0 : Fin 1) j) = _ from colWord_apply _ (0 : Fin 1) j,
        show broadcastTo S1x64 (subi (k0_pay688 (F := Ideal) rowNo colNo V) (broadcast S1x1 1#32)) broadcasts_S1x1_S1x64
          (ix2 (0 : Fin 1) j) = _ from spreadOne_apply _ _ (0 : Fin 1) j]
      show IntOp.cmpi .eq _ (k0_pay688 (F := Ideal) rowNo colNo V (ix2 (0 : Fin 1) (0 : Fin 1)) - 1#32) = _
      rw [length_apply V hV hK, cmpi_eq_eq]
      refine congrArg BitVec.ofBool (decide_eq_decide.mpr ?_)
      have hj := j.isLt
      rw [eq_sub_iff_add_eq, ← BitVec.ofNat_add, ofNat_eq_ofNat_iff (small_word' (by omega)) (small_word' (by omega))]
    rw [choose_apply _ _ _ _ _ hm]
    exact if_congr Iff.rfl (prefixRow_apply V hV j) Ideal.ofBits_zero_f32
  refine (Finset.sum_congr rfl fun j _ => e j).trans ?_
  by_cases h0 : K = 0
  · rw [if_pos h0]
    refine Finset.sum_eq_zero fun j _ => if_neg ?_
    omega
  · rw [if_neg h0]
    have hlt : min K 64 - 1 < 64 := by omega
    rw [Finset.sum_eq_single (⟨min K 64 - 1, hlt⟩ : Fin 64)]
    · exact if_pos (by show min K 64 - 1 + 1 = _; omega)
    · intro j _ hj
      exact if_neg fun h => hj (Fin.ext (by show j.val = min K 64 - 1; omega))
    · exact fun h => absurd (Finset.mem_univ _) h

end Cert.Sparse
-- ==== Proof.Fill.lean ====
/-
  Filling up.  When the support has fewer than 64 ranks, the remaining places go to the earliest positions whose entries are
  not above the threshold.  The kernel looks at the first 128 positions, counts for each how many such positions come before
  it, and writes the position with the right count into each place.
-/
module

public import proofs.«01_k».proof.Proof.Support

@[expose] public section

namespace Cert.Sparse

open Idealize.ShloMosaic Idealize.ShloMosaic.TcCoe Idealize.ShloMosaic.Pointwise Idealize.ShloMosaic.WordCmp Cert.KernelIdeal
  Cert.KernelIdeal.Gen

/-- The row numbers of the table of 128 rows. -/
abbrev posNo : IVec S128x128 32 := iota .tc S128x128 32 [0] iota_S128x128_d0_w32

/-- The column numbers of the table of 128 rows. -/
abbrev placeNo : IVec S128x128 32 := iota .tc S128x128 32 [1] iota_S128x128_d1_w32

/-- The mask of the columns that do not come after the row. -/
theorem notAfter (r c : Fin 128) : cmpi .sle placeNo posNo (ix2 r c) = BitVec.ofBool (decide (c.val ≤ r.val)) := by
  show IntOp.cmpi .sle (placeNo (ix2 r c)) (posNo (ix2 r c)) = _
  rw [show posNo (ix2 r c) = _ from rowWord_apply _ r c, show placeNo (ix2 r c) = _ from colWord_apply _ r c,
    cmpi_sle_ofNat (small_word (by omega)) (small_word (by omega))]

/-- The mask of the diagonal. -/
theorem same (r c : Fin 128) : cmpi .eq placeNo posNo (ix2 r c) = BitVec.ofBool (decide (c = r)) := by
  show IntOp.cmpi .eq (placeNo (ix2 r c)) (posNo (ix2 r c)) = _
  rw [show posNo (ix2 r c) = _ from rowWord_apply _ r c, show placeNo (ix2 r c) = _ from colWord_apply _ r c,
    cmpi_eq_ofNat (small_word' (by omega)) (small_word' (by omega))]
  exact congrArg BitVec.ofBool (decide_eq_decide.mpr Fin.ext_iff.symm)

/-- The conjunction of two masks that decide propositions decides both. -/
theorem both_apply {s : Shape} (m m' : IVec s 1) (i : s.Idx) (p q : Prop) [Decidable p] [Decidable q]
    (h : m i = BitVec.ofBool (decide p)) (h' : m' i = BitVec.ofBool (decide q)) :
    andi m m' i = BitVec.ofBool (decide (p ∧ q)) := by
  show IntOp.andi (m i) (m' i) = _
  rw [h, h', andi_ofBool, Bool.decide_and]

variable (p : ℕ → Prop) [DecidablePred p] (M : IVec S128x128 1)
  (hM : ∀ r c : Fin 128, M (ix2 r c) = BitVec.ofBool (decide (p c.val)))

include hM

/-- For each position, how many positions up to it are eligible. -/
theorem countCol_apply (r : Fin 128) :
    shapeCast S128x1 (multiReductionI .add [1] S128 (select (andi M (cmpi .sle placeNo posNo)) (broadcast S128x128 1#32)
      (broadcast S128x128 0#32)) 0#32 reduces_S128x128_S128 rfl) shapeCasts_S128_S128x1 (ix2 r (0 : Fin 1))
      = BitVec.ofNat 32 (Nat.count p (r.val + 1)) := by
  refine (asCol_apply _ _ r).trans ((wordRows_apply _ _ r).trans ?_)
  rw [← card_upTo p r, ← sum_ones]
  exact Finset.sum_congr rfl fun c _ => choose_apply _ _ _ _ _ (both_apply _ _ _ _ _ (hM r c) (notAfter r c))

/-- For each position, one if it is eligible. -/
theorem ownCol_apply (r : Fin 128) :
    shapeCast S128x1 (multiReductionI .add [1] S128 (select (andi M (cmpi .eq placeNo posNo)) (broadcast S128x128 1#32)
      (broadcast S128x128 0#32)) 0#32 reduces_S128x128_S128 rfl) shapeCasts_S128_S128x1 (ix2 r (0 : Fin 1))
      = if p r.val then 1#32 else 0#32 := by
  refine (asCol_apply _ _ r).trans ((wordRows_apply _ _ r).trans ?_)
  have e : ∀ c : Fin 128, select (andi M (cmpi .eq placeNo posNo)) (broadcast S128x128 1#32) (broadcast S128x128 0#32) (ix2 r c)
      = if c = r then (if p c.val then 1#32 else 0#32) else 0#32 := fun c => by
    rw [choose_apply _ _ _ _ _ (both_apply _ _ _ _ _ (hM r c) (same r c))]
    by_cases h1 : c = r
    · by_cases h2 : p c.val
      · rw [if_pos ⟨h2, h1⟩, if_pos h1, if_pos h2]; rfl
      · rw [if_neg fun h => h2 h.1, if_pos h1, if_neg h2]; rfl
    · rw [if_neg fun h => h1 h.2, if_neg h1]; rfl
  refine (Finset.sum_congr rfl fun c _ => e c).trans ?_
  exact (Finset.sum_ite_eq' Finset.univ r _).trans (if_pos (Finset.mem_univ r))

omit hM in
/-- The place of an eligible position: after the `k` ranks of the support and the eligible positions before it. -/
theorem goesTo_apply (w : IVec S1x1 32) (k : ℕ) (hk : k ≤ 64) (hw : w (ix2 (0 : Fin 1) (0 : Fin 1)) = BitVec.ofNat 32 k)
    (A B : IVec S128x1 32) (hA : ∀ r : Fin 128, A (ix2 r (0 : Fin 1)) = BitVec.ofNat 32 (Nat.count p (r.val + 1)))
    (hB : ∀ r : Fin 128, B (ix2 r (0 : Fin 1)) = if p r.val then 1#32 else 0#32) (r c : Fin 128) :
    andi (broadcastTo S128x128 (cmpi .sgt B (broadcast S128x1 0#32)) broadcasts_S128x1_S128x128)
      (cmpi .eq (broadcastTo S128x128 (subi (addi (broadcastTo S128x1 w broadcasts_S1x1_S128x1) A) (broadcast S128x1 1#32))
        broadcasts_S128x1_S128x128) placeNo) (ix2 r c)
      = BitVec.ofBool (decide (p r.val ∧ k + Nat.count p r.val = c.val)) := by
  have h1 : broadcastTo S128x128 (cmpi .sgt B (broadcast S128x1 0#32)) broadcasts_S128x1_S128x128 (ix2 r c)
      = BitVec.ofBool (decide (p r.val)) := by
    refine (spreadCol_apply _ _ r c).trans ?_
    show IntOp.cmpi .sgt (B (ix2 r (0 : Fin 1))) 0#32 = _
    rw [hB]
    by_cases h : p r.val
    · rw [if_pos h, decide_eq_true h]; rfl
    · rw [if_neg h, decide_eq_false h]; rfl
  have h2 : cmpi .eq (broadcastTo S128x128 (subi (addi (broadcastTo S128x1 w broadcasts_S1x1_S128x1) A) (broadcast S128x1 1#32))
        broadcasts_S128x1_S128x128) placeNo (ix2 r c)
      = BitVec.ofBool (decide (k + Nat.count p (r.val + 1) = c.val + 1)) := by
    show IntOp.cmpi .eq (broadcastTo S128x128 (subi (addi (broadcastTo S128x1 w broadcasts_S1x1_S128x1) A)
      (broadcast S128x1 1#32)) broadcasts_S128x1_S128x128 (ix2 r c)) (placeNo (ix2 r c)) = _
    rw [show broadcastTo S128x128 (subi (addi (broadcastTo S128x1 w broadcasts_S1x1_S128x1) A)
      (broadcast S128x1 1#32)) broadcasts_S128x1_S128x128 (ix2 r c) = _ from spreadCol_apply _ _ r c,
      show placeNo (ix2 r c) = _ from colWord_apply _ r c]
    show IntOp.cmpi .eq (broadcastTo S128x1 w broadcasts_S1x1_S128x1 (ix2 r (0 : Fin 1)) + A (ix2 r (0 : Fin 1)) - 1#32) _ = _
    rw [show broadcastTo S128x1 w broadcasts_S1x1_S128x1 (ix2 r (0 : Fin 1)) = _ from spreadOne_apply _ _ r (0 : Fin 1), hw, hA,
      cmpi_eq_eq]
    refine congrArg BitVec.ofBool (decide_eq_decide.mpr ?_)
    have hc := c.isLt
    have hr := r.isLt
    have hn : Nat.count p (r.val + 1) ≤ r.val + 1 := Nat.count_le p
    rw [sub_eq_iff_eq_add, ← BitVec.ofNat_add, ← BitVec.ofNat_add,
      ofNat_eq_ofNat_iff (small_word' (by omega)) (small_word' (by omega))]
  rw [both_apply _ _ _ _ _ h1 h2]
  refine congrArg BitVec.ofBool (decide_eq_decide.mpr ?_)
  constructor
  · rintro ⟨h, h'⟩
    rw [Nat.count_succ, if_pos h] at h'
    exact ⟨h, by omega⟩
  · rintro ⟨h, h'⟩
    refine ⟨h, ?_⟩
    rw [Nat.count_succ, if_pos h]
    omega

omit hM in
/-- The positions filled in, as a row. -/
theorem fillRow_apply (T : IVec S128x128 1) (k : ℕ)
    (hT : ∀ r c : Fin 128, T (ix2 r c) = BitVec.ofBool (decide (p r.val ∧ k + Nat.count p r.val = c.val))) (c t : Fin 128)
    (ht : p t.val) (hc : k + Nat.count p t.val = c.val) :
    shapeCast S1x128 (multiReductionI .add [0] S128 (select T posNo (broadcast S128x128 0#32)) 0#32 reduces_S128x128_S128_2 rfl)
      shapeCasts_S128_S1x128 (ix2 (0 : Fin 1) c) = BitVec.ofNat 32 t.val := by
  refine (asRow_apply _ _ c).trans ((wordCols_apply _ _ c).trans ?_)
  have e : ∀ r : Fin 128, select T posNo (broadcast S128x128 0#32) (ix2 r c)
      = if r = t then BitVec.ofNat 32 r.val else 0#32 := fun r => by
    rw [choose_apply _ _ _ _ _ (hT r c)]
    refine if_congr ⟨fun h => ?_, fun h => ?_⟩ (rowWord_apply _ r c) rfl
    · exact Fin.ext (Nat.count_injective h.1 ht (by omega))
    · subst h; exact ⟨ht, hc⟩
  refine (Finset.sum_congr rfl fun r _ => e r).trans ?_
  exact (Finset.sum_ite_eq' Finset.univ t _).trans (if_pos (Finset.mem_univ t))

omit hM in
/-- The entries of the first 128 positions compared with the threshold. -/
theorem eligible_apply (row : FVec Ideal S1x128 .f32) (θ : FVec Ideal S1x1 .f32)
    (hp : ∀ t : Fin 128, p t.val ↔ row (ix2 (0 : Fin 1) t) ≤ (θ (ix2 (0 : Fin 1) (0 : Fin 1)) : EReal)) (r c : Fin 128) :
    broadcastTo S128x128 (cmpf .ole row (broadcastTo S1x128 θ broadcasts_S1x1_S1x128)) broadcasts_S1x128_S128x128 (ix2 r c)
      = BitVec.ofBool (decide (p c.val)) := by
  refine (spreadRow_apply _ _ r c).trans ?_
  show Ideal.cmp .ole (row (ix2 (0 : Fin 1) c)) (broadcastTo S1x128 θ broadcasts_S1x1_S1x128 (ix2 (0 : Fin 1) c)) = _
  rw [show broadcastTo S1x128 θ broadcasts_S1x1_S1x128 (ix2 (0 : Fin 1) c) = _ from spreadOne_apply _ _ (0 : Fin 1) c]
  show BitVec.ofBool (decide (row (ix2 (0 : Fin 1) c) ≤ (θ (ix2 (0 : Fin 1) (0 : Fin 1)) : EReal))) = _
  exact congrArg BitVec.ofBool (decide_eq_decide.mpr (hp c).symm)

omit hM in
/-- Whether a place of the result lies in the support. -/
theorem inside_apply (w : IVec S1x1 32) (k : ℕ) (hk : k ≤ 64) (hw : w (ix2 (0 : Fin 1) (0 : Fin 1)) = BitVec.ofNat 32 k)
    (j : Fin 64) :
    cmpi .slt (iota .tc S1x64 32 [1] iota_S1x64_d1_w32) (broadcastTo S1x64 w broadcasts_S1x1_S1x64) (ix2 (0 : Fin 1) j)
      = BitVec.ofBool (decide (j.val < k)) := by
  show IntOp.cmpi .slt (iota .tc S1x64 32 [1] iota_S1x64_d1_w32 (ix2 (0 : Fin 1) j))
    (broadcastTo S1x64 w broadcasts_S1x1_S1x64 (ix2 (0 : Fin 1) j)) = _
  rw [show broadcastTo S1x64 w broadcasts_S1x1_S1x64 (ix2 (0 : Fin 1) j) = _ from spreadOne_apply _ _ (0 : Fin 1) j, hw,
    show iota .tc S1x64 32 [1] iota_S1x64_d1_w32 (ix2 (0 : Fin 1) j) = _ from colWord_apply _ (0 : Fin 1) j,
    cmpi_slt_ofNat (small_word (by omega)) (small_word (by omega))]

section result

variable (g : IVec S1x64 32) (w : IVec S1x1 32) (s o : FVec Ideal S1x1 .f32) (row : Vec Ideal S1x128 .f32) (k : ℕ) (hk : k ≤ 64)
  (hw : w (ix2 (0 : Fin 1) (0 : Fin 1)) = BitVec.ofNat 32 k)

include hk hw

omit hM in
/-- A place in the support holds the position found by sorting. -/
theorem out_inside (j : Fin 64) (hj : j.val < k) :
    k0_pay691 (F := Ideal) g w s o row (ix2 (0 : Fin 1) j) = g (ix2 (0 : Fin 1) j) := by
  unfold k0_pay691
  dsimp only
  exact (choose_apply _ _ _ _ _ (inside_apply w k hk hw j)).trans (if_pos hj)

omit hM in
/-- A place after it holds an eligible position. -/
theorem out_outside (hp : ∀ t : Fin 128, p t.val ↔ (row : FVec Ideal S1x128 .f32) (ix2 (0 : Fin 1) t)
      ≤ (Ideal.div (s (ix2 (0 : Fin 1) (0 : Fin 1)) - o (ix2 (0 : Fin 1) (0 : Fin 1))) ((k : ℝ) : EReal) : EReal))
    (j : Fin 64) (hj : k ≤ j.val) (t : Fin 128) (ht : p t.val) (hc : k + Nat.count p t.val = j.val) :
    k0_pay691 (F := Ideal) g w s o row (ix2 (0 : Fin 1) j) = BitVec.ofNat 32 t.val := by
  unfold k0_pay691
  dsimp only
  refine (choose_apply _ _ _ _ _ (inside_apply w k hk hw j)).trans ((if_neg (not_lt.mpr hj)).trans ?_)
  have hslice : ∀ f : IVec S1x128 32, extractStridedSlice S1x64 ![0, 0] f slices_S1x128_o0_0_S1x64 (ix2 (0 : Fin 1) j)
      = f (ix2 (0 : Fin 1) (j.castLE (by norm_num) : Fin 128)) := fun f => by
    refine extractStridedSlice_apply _ _ _ _ _ fun a => ?_
    match a with
    | ⟨0, _⟩ => rfl
    | ⟨1, _⟩ => exact (Nat.zero_add _).symm
  refine (hslice _).trans ?_
  rw [shapeCast_self, shapeCast_self]
  have hM := eligible_apply p (row : FVec Ideal S1x128 .f32) (divf (subf s o) (sitofp .f32 w)) fun t => by
    rw [hp]
    show _ ↔ _ ≤ Ideal.div (s (ix2 (0 : Fin 1) (0 : Fin 1)) - o (ix2 (0 : Fin 1) (0 : Fin 1)))
      (((w (ix2 (0 : Fin 1) (0 : Fin 1))).toInt : ℝ) : EReal)
    rw [hw, word_real k (by omega)]
  exact fillRow_apply p _ k (goesTo_apply p w k hk hw _ _ (countCol_apply p _ hM) (ownCol_apply p _ hM)) _ t ht hc

end result

end Cert.Sparse
-- ==== Proof.Phase4.lean ====
/-
  The last phase as a whole.  Place `j` of the kernel's result is the position with the `j`-th greatest weight
  (`kernel_apply`): inside the support the weights are ordered like the entries, and after it all weights are zero and the
  earliest positions come first.
-/
module

public import proofs.«01_k».proof.Proof.Top
public import proofs.«01_k».proof.Proof.Fill
public import Idealize.ShloMosaic.Lib.WholeRead

@[expose] public section

namespace Cert.Sparse

open Idealize.ShloMosaic Idealize.ShloMosaic.TcCoe Idealize.ShloMosaic.Pointwise Cert.KernelIdeal Cert.KernelIdeal.Gen

/-- The threshold, as the kernel computes it from the prefix sum of the last rank and the number of ranks. -/
theorem threshold_of (z : ℕ → EReal) (K : ℕ) :
    Ideal.div ((if K = 0 then (0 : EReal) else upTo z (K - 1)) - 1) ((K : ℝ) : EReal) = cut z K := by
  unfold cut
  rcases Nat.eq_zero_or_pos K with rfl | h
  · rw [if_pos rfl, if_pos rfl]
    have h0 : (((0 : ℕ) : ℝ) : EReal) = 0 := by simp
    have h1 : ¬ (0 : EReal) < 0 - 1 := by
      rw [← EReal.coe_one, ← EReal.coe_zero, ← EReal.coe_sub, EReal.coe_lt_coe_iff]
      norm_num
    rw [h0]
    unfold Ideal.div
    rw [if_pos rfl, if_neg h1]
  · rw [if_neg h.ne', if_neg h.ne']

section result

variable (x : Fin 32768 → EReal) (K : ℕ) (hx : ∀ t, x t < ⊤) (hK : ∀ k, InSupport (sorted x) k ↔ k < K)
  (V : FVec Ideal S64x1 .f32) (hV : ∀ j : Fin 64, V (ix2 j (0 : Fin 1)) = sorted x j.val)
  (g : Vec Ideal S64x1 .i32) (hg : ∀ j : Fin 64, (g (ix2 j (0 : Fin 1)) : BitVec 32) = BitVec.ofNat 32 (order x (j.castLE first64)).val)
  (row : Vec Ideal S1x128 .f32)
  (hrow : ∀ t : Fin 128, (row : FVec Ideal S1x128 .f32) (ix2 (0 : Fin 1) t) = x ⟨t.val, by have := t.isLt; omega⟩)

include hx hK hV hg hrow

/-- The result from the sorted entries, their positions, and the first 128 entries of the input. -/
theorem last_apply (j : Fin 64) :
    k0_pay691 (F := Ideal) (k0_pay686 (F := Ideal) g rowNo colNo) (k0_pay688 (F := Ideal) rowNo colNo V)
      (k0_pay689 (F := Ideal) rowNo colNo V) k0_pay690 row (ix2 (0 : Fin 1) j)
      = BitVec.ofNat 32 (order (weight x K) (j.castLE first64)).val := by
  classical
  have hin : ∀ i : Fin 64, i.val < K → k0_pay691 (F := Ideal) (k0_pay686 (F := Ideal) g rowNo colNo)
      (k0_pay688 (F := Ideal) rowNo colNo V) (k0_pay689 (F := Ideal) rowNo colNo V) k0_pay690 row (ix2 (0 : Fin 1) i)
      = BitVec.ofNat 32 (order x (i.castLE first64)).val := fun i hi =>
    (out_inside _ _ _ _ _ (min K 64) (Nat.min_le_right _ _) (length_apply V hV hK) i
      (by have := i.isLt; omega)).trans ((posRow_apply g i).trans (hg i))
  -- the position in each place
  have hq : ∀ i : Fin 64, ∃ t : Fin 32768, k0_pay691 (F := Ideal) (k0_pay686 (F := Ideal) g rowNo colNo)
      (k0_pay688 (F := Ideal) rowNo colNo V) (k0_pay689 (F := Ideal) rowNo colNo V) k0_pay690 row (ix2 (0 : Fin 1) i)
      = BitVec.ofNat 32 t.val ∧ (i.val < K → t = order x (i.castLE first64))
        ∧ (K ≤ i.val → Low x K t.val ∧ Nat.count (Low x K) t.val = i.val - K) := fun i => by
    by_cases hi : i.val < K
    · exact ⟨order x (i.castLE first64), hin i hi, fun _ => rfl, fun h => absurd hi (not_lt.mpr h)⟩
    · have hi64 := i.isLt
      have hKi : K ≤ i.val := not_lt.mp hi
      have hmin : min K 64 = K := by omega
      obtain ⟨t, ht, hlow, hc⟩ := exists_count (Low x K) (i.val - K) 128 (by
        have := count_low_add x K positions_le hx hK 128 (by norm_num)
        omega)
      refine ⟨⟨t, by omega⟩, ?_, fun h => absurd h hi, fun _ => ⟨hlow, hc⟩⟩
      have hw := length_apply V hV hK
      have hs := lastPrefix_apply V hV hK
      rw [hmin] at hw hs
      refine out_outside (Low x K) _ _ _ _ _ K (by omega) hw (fun u => ?_) i hKi ⟨t, ht⟩ hlow (by show K + Nat.count _ t = _; omega)
      have ho : (k0_pay690 (F := Ideal)) (ix2 (0 : Fin 1) (0 : Fin 1)) = (1 : EReal) := Ideal.ofBits_one_f32
      rw [hs, ho, threshold_of, hrow]
      exact ⟨fun ⟨_, h⟩ => h, fun h => ⟨_, h⟩⟩
  choose q hq using hq
  rw [(hq j).1, order_weight x K positions_le hx hK first64 q (fun i hi => (hq i).2.1 hi) (fun i hi => (hq i).2.2 hi) j]

end result

variable (c : Dev nD) (arg0 : Memref sig .tc .vmem S256x128 .f32) (harg0 : arg0.IsWhole) (arg1 : Memref sig .tc .vmem S1x64 .i32)
  (harg1 : arg1.IsWhole) (arg2 : Memref sig .tc .vmem S64x1 .f32) (harg2 : arg2.IsWhole) (arg3 : Memref sig .tc .vmem S64x1 .i32)
  (harg3 : arg3.IsWhole) (x0 : Vec Ideal S256x128 .f32)

/-- The first row of the input, as the body loads it once more. -/
noncomputable def firstRow : Vec Ideal S1x128 .f32 :=
  View.readAt (Elt Ideal) arg0.view (Rect.unit (s := S256x128) ![0, 0] ![1, 128] inb_S256x128_S1x128_0_0).toLoadRect
    (harg0.unread x0)

/-- The first row of the input holds its first 128 entries. -/
theorem firstRow_apply (t : Fin 128) :
    (firstRow arg0 harg0 x0 : FVec Ideal S1x128 .f32) (ix2 (0 : Fin 1) t) = flat x0 ⟨t.val, by have := t.isLt; omega⟩ := by
  refine (Memref.IsWhole.readAt_unread harg0 x0 _ _).trans ?_
  unfold flat
  refine congrArg x0 ?_
  rw [eq_ix2 ((Rect.unit (s := S256x128) ![0, 0] ![1, 128] inb_S256x128_S1x128_0_0).toLoadRect.idx (ix2 (0 : Fin 1) t))]
  have ht := t.isLt
  refine congrArg₂ ix2 (Fin.ext ?_) (Fin.ext ?_)
  · show 0 + 1 * 0 = t.val / 128
    omega
  · show 0 + 1 * t.val = t.val % 128
    omega

/-- What the body writes. -/
theorem written_eq : (kernelRun0_A (F := Ideal) c arg0 harg0 arg1 harg1 arg2 harg2 arg3 harg3 x0).1
    = [⟨Rect.unit ![0, 0] ![1, 64] inb_S1x64_S1x64_0_0,
        k0_pay691 (F := Ideal) (k0_pay686 (F := Ideal) (topIdx c arg0 harg0 x0) rowNo colNo)
          (k0_pay688 (F := Ideal) rowNo colNo (topVal c arg0 harg0 x0))
          (k0_pay689 (F := Ideal) rowNo colNo (topVal c arg0 harg0 x0)) k0_pay690
          (firstRow arg0 harg0 x0)⟩] := by
  unfold kernelRun0_A
  dsimp only
  have e2 : kernelRun0_A.sl.v2734 (F := Ideal) c arg0 harg0 arg2 x0 = topVal c arg0 harg0 x0 :=
    View.readCov_full arg2.view _ _ _ _
  have e3 : kernelRun0_A.sl.v2735 (F := Ideal) c arg0 harg0 arg3 x0 = topIdx c arg0 harg0 x0 :=
    View.readCov_full arg3.view _ _ _ _
  unfold kernelRun0_A.sl.r_307 kernelRun0_A.sl.r_308 kernelRun0_A.sl.r_309 kernelRun0_A.sl.r_306
  have e4 : k0_pay684 (F := Ideal) (topVal c arg0 harg0 x0) = topVal c arg0 harg0 x0 := shapeCast_self _ _
  rw [e2, e3, e4]
  rfl

/-- Place `j` of the block the body writes. -/
theorem kernel_apply (hx : ∀ t, flat x0 t < ⊤) {K : ℕ} (hK : ∀ k, InSupport (sorted (flat x0)) k ↔ k < K) (j : Fin 64) :
    out0_A_1 (F := Ideal) c arg0 harg0 arg1 harg1 arg2 harg2 arg3 harg3 x0 (ix2 (0 : Fin 1) j)
      = BitVec.ofNat 32 (order (weight (flat x0) K) (j.castLE first64)).val := by
  unfold out0_A_1
  rw [written_eq]
  refine (congrFun (View.read_writes_full VO0_1 VO0_1.junk inb_S1x64_S1x64_0_0 _ []) _).trans ?_
  exact last_apply (flat x0) K hx hK _ (topVal_apply c arg0 harg0 x0) _ (topIdx_apply c arg0 harg0 x0) _
    (firstRow_apply arg0 harg0 x0) j

end Cert.Sparse
-- ==== Proof.Reference.lean ====
/-
  What the reference returns: the positions of the 64 greatest weights of the sparse projection (`result_apply`).
-/
module

public import proofs.«01_k».proof.Proof.RefRun
public import proofs.«01_k».proof.Proof.Rank
public import Idealize.ShloMosaic.Lib.IdealHost
public import Idealize.ShloMosaic.Lib.IndicatorCount
public import Idealize.ShloMosaic.Lib.ValueLayout
public import Idealize.ShloMosaic.Lib.Pointwise.Index
public import Idealize.ShloMosaic.PureOps.Reduce

@[expose] public section

namespace Cert.Sparse

open Idealize.ShloMosaic Idealize.ShloMosaic.TcCoe Idealize.ShloMosaic.Pointwise Idealize.ShloMosaic.SortNet

theorem ofFin_eq_ix1 {n : ℕ} (k : Fin n) : Shape.Idx.ofFin k = ix1 k := by
  rw [eq_ix1 (Shape.Idx.ofFin k)]; rfl

/-- A sum over the window that ends at `j`, everything before the start being absent. -/
theorem sum_window (m : ℕ) (s : ℕ → EReal) (j : ℕ) (hj : j < m + 1) :
    ∑ a : Fin (m + 1), (if m ≤ j + a.val then s (j + a.val - m) else 0) = ∑ i ∈ Finset.range (j + 1), s i := by
  rw [Fin.sum_univ_eq_sum_range (fun a => if m ≤ j + a then s (j + a - m) else 0) (m + 1)]
  have e : m + 1 = (m - j) + (j + 1) := by omega
  rw [e, Finset.sum_range_add, Finset.sum_eq_zero, zero_add]
  · refine Finset.sum_congr rfl fun i _ => ?_
    rw [if_pos (by omega)]
    congr 1
    omega
  · intro a ha
    rw [Finset.mem_range] at ha
    exact if_neg (by omega)

theorem foldl_add {α : Type} (l : List α) (g : α → EReal) (r : EReal) :
    l.foldl (fun r a => r + g a) r = r + (l.map g).sum := by
  induction l generalizing r with
  | nil => simp
  | cons a l ih => rw [List.foldl_cons, ih, List.map_cons, List.sum_cons, add_assoc]

/-- A float window sum whose window ends at the position read is the prefix sum. -/
theorem window_apply {n m : ℕ} (hnm : n = m + 1) (x : (⟨1, ![n]⟩ : Shape).Idx → EReal) (s : ℕ → EReal)
    (hs : ∀ t : Fin n, x (ix1 t) = s t.val)
    (h : (⟨1, ![n]⟩ : Shape).ReduceWindows ![n] ![1] ![m] ![0] ⟨1, ![n]⟩) (j : Fin n) :
    Ideal.hostReduceWindowAdd (s := ⟨1, ![n]⟩) ![n] ![1] ![m] ![0] h x 0 (ix1 j) = ∑ i ∈ Finset.range (j.val + 1), s i := by
  unfold Ideal.hostReduceWindowAdd Host.reduceWindow
  dsimp only
  rw [foldl_add, zero_add, ← List.ofFn_eq_map, List.sum_ofFn]
  have hall : ∀ w : (⟨1, ![n]⟩ : Shape).Idx, (if hin : ∀ a : Fin 1, (![m] : Fin 1 → ℕ) a ≤ (ix1 j a).val * (![1] : Fin 1 → ℕ) a + (w a).val
        ∧ (ix1 j a).val * (![1] : Fin 1 → ℕ) a + (w a).val - (![m] : Fin 1 → ℕ) a < (![n] : Fin 1 → ℕ) a
      then x (fun a => ⟨(ix1 j a).val * (![1] : Fin 1 → ℕ) a + (w a).val - (![m] : Fin 1 → ℕ) a, (hin a).2⟩) else 0)
      = if m ≤ j.val + (w 0).val then s (j.val + (w 0).val - m) else 0 := fun w => by
    have ha : (w 0).val < n := (w 0).isLt
    have hj := j.isLt
    by_cases hc : m ≤ j.val + (w 0).val
    · rw [if_pos hc, dif_pos]
      · refine Eq.trans (congrArg x (funext fun i => ?_)) (hs ⟨j.val + (w 0).val - m, by omega⟩)
        match i with
        | ⟨0, _⟩ =>
          refine Fin.ext ?_
          show j.val * 1 + (w 0).val - m = j.val + (w 0).val - m
          rw [Nat.mul_one]
      · intro i
        match i with
        | ⟨0, _⟩ =>
          show m ≤ j.val * 1 + (w 0).val ∧ j.val * 1 + (w 0).val - m < n
          omega
    · rw [if_neg hc, dif_neg]
      intro hin
      have h0 : m ≤ j.val * 1 + (w 0).val := (hin 0).1
      omega
  refine (Finset.sum_congr rfl fun i _ => Eq.trans ?_ (hall ((⟨1, ![n]⟩ : Shape).rowMajor.symm i))).trans ?_
  · congr 1
  refine (Equiv.sum_comp (⟨1, ![n]⟩ : Shape).rowMajor.symm (fun w : (⟨1, ![n]⟩ : Shape).Idx =>
    if m ≤ j.val + (w 0).val then s (j.val + (w 0).val - m) else 0)).trans ?_
  rw [sum_idx1]
  subst hnm
  exact sum_window m s j.val j.isLt

/-- The number of marked positions of a vector, when the marked positions are the first `K`. -/
theorem card_first {n : ℕ} (p : (⟨1, ![n]⟩ : Shape).Idx → BitVec 1) (K : ℕ) (hK : K ≤ n)
    (hp : ∀ t : Fin n, p (ix1 t) = 1#1 ↔ t.val < K) : (Finset.univ.filter fun i => p i = 1#1).card = K := by
  rw [Finset.card_filter, sum_idx1]
  have e : ∀ t : Fin n, (if p (ix1 t) = 1#1 then 1 else 0) = (if t.val < K then 1 else 0 : ℕ) := fun t => by
    simp only [hp]
  rw [Finset.sum_congr rfl fun t _ => e t, Fin.sum_univ_eq_sum_range (fun t => if t < K then 1 else 0) n,
    ← Finset.card_filter]
  have e2 : (Finset.range n).filter (fun t => t < K) = Finset.range K := by
    ext t; simp only [Finset.mem_filter, Finset.mem_range]; omega
  rw [e2, Finset.card_range]

open Cert.ReferenceIdeal Cert.ReferenceIdeal.Gen

/-- The reference's comparison of two values is the order of the values. -/
theorem comparator_eq (l r : EReal) : comparator_f32_d0 (F := Ideal) l r = BitVec.ofBool (decide (l < r)) := by
  have norm : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := fun a => by
    have h1 : Ideal.cmp .une a a = 0#1 := by
      show BitVec.ofBool (decide (a ≠ a)) = 0#1
      rw [decide_eq_false (fun h => h rfl)]; rfl
    rw [h1]
    show Scalar.select (BitVec.ofBool (decide (a = Ideal.ofBits .f32 0x00000000#32))) (Ideal.ofBits .f32 0x00000000#32) a = a
    by_cases h : a = Ideal.ofBits .f32 0x00000000#32
    · rw [decide_eq_true h]; exact h.symm
    · rw [decide_eq_false h]; rfl
  exact congrArg₂ (Ideal.cmp .olt) (norm l) (norm r)

theorem ofBool_beq_one (b : Bool) : (BitVec.ofBool b == 1#1) = b := by cases b <;> rfl

/-- The values of a vector of scores, by position. -/
def at1 (z : Vec Ideal S32768 .f32) (t : Fin 32768) : EReal := z (ix1 t)

theorem scaled_eq (x : Vec Ideal S32768 .f32) : Read.scaled (F := Ideal) x = x := by
  funext i
  show Ideal.div (x i) (Ideal.ofBits .f32 0x3F800000#32) = x i
  rw [Ideal.ofBits_one_f32, ← EReal.coe_one, Ideal.div_coe one_ne_zero, one_div_one, EReal.coe_one, mul_one]

theorem count_le : 32768 ≤ 2 ^ 31 := by norm_num

/-- An ascending sort read backwards is the sorted list. -/
theorem reversed_sorted {n : ℕ} (hn : n ≤ 2 ^ 31) (X : Fin n → EReal) (k : Fin n) :
    X (sortedFrom (fun a b => decide (X a < X b)) k.rev) = sorted X k.val := by
  refine eq_sorted hn X (fun k => sortedFrom (fun a b => decide (X a < X b)) k.rev) ⟨?_, ?_⟩ ?_ k
  · exact (sortedFrom_injective _).comp Fin.rev_injective
  · exact (sortedFrom_surjective _).comp Fin.rev_surjective
  · intro i j hij
    have h := sortedFrom_noInversion (fun a b => decide (X a < X b)) (fun a b => decide (X a < X b))
      (fun a b h => decide_eq_false (not_lt.mpr (of_decide_eq_true h).le)) (fun _ _ h => h)
      (fun a b c h h' => decide_eq_false (not_lt.mpr ((not_lt.mp (of_decide_eq_false h')).trans (not_lt.mp (of_decide_eq_false h)))))
      j.rev i.rev (Fin.rev_lt_rev.mpr hij)
    exact not_lt.mp (of_decide_eq_false h)

/-- The reference's sorted values. -/
theorem sortedDown_apply (z : Vec Ideal S32768 .f32) (k : Fin 32768) :
    Read.sortedDown (F := Ideal) z (ix1 k) = sorted (at1 z) k.val := by
  have hR : ∀ a b : Fin 32768, (comparator_f32_d0 (F := Ideal) (z (Shape.Idx.ofFin a)) (z (Shape.Idx.ofFin b)) == 1#1)
      = decide (at1 z a < at1 z b) := fun a b => by
    rw [comparator_eq, ofBool_beq_one, ofFin_eq_ix1, ofFin_eq_ix1]
    rfl
  have e : Read.sortedDown (F := Ideal) z (ix1 k)
      = at1 z (sortedFrom (fun a b => decide (at1 z a < at1 z b)) k.rev) := by
    refine (Host.sort_rank1 _ z _).trans ?_
    rw [ofFin_eq_ix1]
    exact congrArg (fun R => at1 z (sortedFrom R k.rev)) (funext fun a => funext fun b => hR a b)
  rw [e]
  exact reversed_sorted count_le (at1 z) k

/-- The reference's running sums. -/
theorem running_apply (s : Vec Ideal S32768 .f32) (z : ℕ → EReal) (hs : ∀ t : Fin 32768, s (ix1 t) = z t.val) (k : Fin 32768) :
    Read.running (F := Ideal) s (ix1 k) = upTo z k.val := by
  have h := window_apply (n := 32768) (m := 32767) (by norm_num) s z hs reduceWindows_S32768_S32768_w32768s1p32767_0 k
  unfold Read.running Host.reduceWindowAdd upTo
  rw [Ideal.hostReduceWindowAdd_def]
  have hinit : broadcastInDim S_ ![] bcast_S_S_ (constant (F := Ideal) S_ .f32 0x00000000#32) (Shape.Idx.first h_S_) = (0 : EReal) :=
    Ideal.ofBits_zero_f32
  rw [hinit]
  exact h

theorem word_cast (t : ℕ) (h : t < 2 ^ 31) : (((BitVec.ofNat 32 t).toInt : ℝ) : EReal) = ((t : ℝ) : EReal) := by
  have e := toInt_position (n := t + 1) (by omega) ⟨t, Nat.lt_succ_self t⟩
  rw [show (BitVec.ofNat 32 t).toInt = (t : ℤ) from e]
  rfl

/-- The size of the support. -/
theorem support_eq (s cum : Vec Ideal S32768 .f32) (z : ℕ → EReal) (hs : ∀ t : Fin 32768, s (ix1 t) = z t.val)
    (hc : ∀ t : Fin 32768, cum (ix1 t) = upTo z t.val) {K : ℕ} (hKn : K ≤ 32768) (hK : ∀ k, InSupport z k ↔ k < K) (i : S_.Idx) :
    Read.support (F := Ideal) s cum i = BitVec.ofNat 32 K := by
  unfold Read.support
  rw [Host.reduce_eq_fold]
  refine (IndicatorCount.fold_addi_setWidth_eq_card _ _).trans ?_
  rw [Finset.filter_true_of_mem (fun j _ => Subsingleton.elim (α := S_.Idx) _ _)]
  refine congrArg (BitVec.ofNat 32) (card_first _ K hKn fun t => ?_)
  rw [← hK]
  show BitVec.ofBool (decide (Ideal.ofBits .f32 0x00000000#32 < s (ix1 t) - Ideal.div (cum (ix1 t) - Ideal.ofBits .f32 0x3F800000#32)
    (Ideal.ofBits .f32 0x3F800000#32 + (((BitVec.ofNat 32 t.val).toInt : ℝ) : EReal)))) = 1#1 ↔ _
  rw [Ideal.ofBits_zero_f32, Ideal.ofBits_one_f32, word_cast t.val (by have := t.isLt; omega), hs, hc,
    ← EReal.coe_one, ← EReal.coe_add, EReal.coe_one, add_comm (1 : ℝ)]
  unfold InSupport
  by_cases h : 0 < z t.val - Ideal.div (upTo z t.val - 1) (((t.val : ℝ) + 1 : ℝ) : EReal)
  · rw [decide_eq_true h]; exact ⟨fun _ => h, fun _ => rfl⟩
  · rw [decide_eq_false h]; exact ⟨fun e => absurd e (by decide), fun h' => absurd h' h⟩

/-- The reference's threshold. -/
theorem threshold_eq (cum : Vec Ideal S32768 .f32) (k : Vec Ideal S_ .i32) (z : ℕ → EReal) (hz : Antitone z) (htop : ∀ k, z k < ⊤)
    (hc : ∀ t : Fin 32768, cum (ix1 t) = upTo z t.val) {K : ℕ} (hKn : K ≤ 32768) (hK : ∀ k, InSupport z k ↔ k < K)
    (hk : ∀ i, k i = BitVec.ofNat 32 K) (i : S_.Idx) : Read.threshold (F := Ideal) cum k i = cut z K := by
  have hread : ∃ t : Fin 32768, Read.readAt (F := Ideal) cum (Read.lastPos (F := Ideal) k) (ix1 (0 : Fin 1)) = cum (ix1 t)
      ∧ (0 < K → t.val = K - 1) := by
    have hb : ∀ v : ℤ, (min (max v 0) ((32768 - 1 : ℕ) : ℤ)).toNat < 32768 := fun v => by omega
    refine ⟨⟨(min (max ((Read.lastPos (F := Ideal) k (Shape.Idx.first h_S_)).toInt) 0) ((32768 - 1 : ℕ) : ℤ)).toNat, hb _⟩, ?_, ?_⟩
    · unfold Read.readAt Host.dynamicSlice
      refine extractStridedSlice_apply _ _ _ _ _ fun a => ?_
      match a with
      | ⟨0, _⟩ => rfl
    · intro hpos
      have e1 : k (Shape.Idx.first h_S_) - 1#32 = BitVec.ofNat 32 (K - 1) := by
        rw [hk]
        apply BitVec.eq_of_toNat_eq
        rw [BitVec.toNat_sub, BitVec.toNat_ofNat, BitVec.toNat_ofNat, BitVec.toNat_ofNat]
        omega
      have e2 : (BitVec.ofNat 32 (K - 1)).toInt = ((K - 1 : ℕ) : ℤ) :=
        toInt_position (n := K) (by omega) ⟨K - 1, by omega⟩
      have e3 : Read.lastPos (F := Ideal) k (Shape.Idx.first h_S_) = BitVec.ofNat 32 (K - 1) := by
        show Scalar.select (BitVec.ofBool ((k (Shape.Idx.first h_S_) - 1#32).slt 0#32))
          (k (Shape.Idx.first h_S_) - 1#32 + 32768#32) (k (Shape.Idx.first h_S_) - 1#32) = _
        rw [e1]
        have : (BitVec.ofNat 32 (K - 1)).slt 0#32 = false := by
          rw [BitVec.slt_eq_decide, e2, decide_eq_false_iff_not]
          simp
        rw [this]
        rfl
      show (min (max ((Read.lastPos (F := Ideal) k (Shape.Idx.first h_S_)).toInt) 0) ((32768 - 1 : ℕ) : ℤ)).toNat = K - 1
      rw [e3, e2]
      omega
  obtain ⟨t, ht, htK⟩ := hread
  have hcast : ∀ u : Vec Ideal S1 .f32, shapeCast S_ u shapeCasts_S1_S_ i = u (ix1 (0 : Fin 1)) := fun u => by
    unfold shapeCast
    exact congrArg u ((eq_ix1 (n0 := 1) _).trans (congrArg ix1 (Subsingleton.elim _ _)))
  show Ideal.div (shapeCast S_ (Read.readAt (F := Ideal) cum (Read.lastPos (F := Ideal) k)) shapeCasts_S1_S_ i
    - Ideal.ofBits .f32 0x3F800000#32) (((k i).toInt : ℝ) : EReal) = _
  rw [hcast, ht, hc, Ideal.ofBits_one_f32, hk, word_cast K (by omega)]
  unfold cut
  rcases Nat.eq_zero_or_pos K with rfl | hpos
  · rw [if_pos rfl]
    have hb : upTo z t.val = ⊥ := by
      unfold upTo
      rw [Finset.sum_range_succ, bot_of_empty hz htop hK, EReal.add_bot]
    rw [hb, EReal.bot_sub]
    unfold Ideal.div
    rw [if_pos (by simp), if_neg not_lt_bot]
  · rw [if_neg hpos.ne', htK hpos]

/-- The reference's weights. -/
theorem probs_apply (z : Vec Ideal S32768 .f32) (t : Vec Ideal S_ .f32) (c : EReal) (ht : ∀ i, t i = c) (i : Fin 32768) :
    Read.probs (F := Ideal) z t (ix1 i) = max 0 (at1 z i - c) := by
  show max (Ideal.ofBits .f32 0x00000000#32) (z (ix1 i) - t _) = _
  rw [Ideal.ofBits_zero_f32, ht]
  rfl

/-- The positions that a selection of the `w` greatest entries returns. -/
theorem topK_apply {n w : ℕ} (hn : n ≤ 2 ^ 31) (hw : w ≤ n) (p : (⟨1, ![n]⟩ : Shape).Idx → EReal)
    (h : (⟨1, ![n]⟩ : Shape).Slices (fun _ => 0) ⟨1, ![w]⟩) (j : Fin w) :
    (Host.topK (s := ⟨1, ![n]⟩) ⟨1, ![w]⟩ 0 (Ideal.cmpTotal .gt) p h).2 (ix1 j)
      = BitVec.ofNat 32 (order (fun t => p (ix1 t)) (j.castLE hw)).val := by
  unfold Host.topK
  dsimp only
  rw [extractStridedSlice_apply _ _ _ _ (ix1 (j.castLE hw)) (fun a => by
    match a with
    | ⟨0, _⟩ => exact (Nat.zero_add _).symm)]
  unfold Host.sort2
  rw [dif_pos (show 0 < (⟨1, ![n]⟩ : Shape).rank from Nat.one_pos)]
  dsimp only
  rw [dif_pos (show 0 < (⟨1, ![n]⟩ : Shape).rank from Nat.one_pos), order_eq_sortedFrom hn]
  have hR : ∀ a b : Fin n, (Ideal.cmpTotal .gt (p ((ix1 (j.castLE hw)).along 0 a)) (p ((ix1 (j.castLE hw)).along 0 b)) == 1#1)
      = decide (p (ix1 b) < p (ix1 a)) := fun a b => by
    rw [Shape.Idx.along_rank1, Shape.Idx.along_rank1, ofFin_eq_ix1, ofFin_eq_ix1]
    exact ofBool_beq_one _
  exact congrArg (fun R => BitVec.ofNat 32 (sortedFrom R (j.castLE hw)).val) (funext fun a => funext fun b => hR a b)

/-- The positions of the greatest entries. -/
theorem best_apply (p : Vec Ideal S32768 .f32) (j : Fin 64) (h : 64 ≤ 32768) :
    Read.best (F := Ideal) p (ix2 (0 : Fin 1) j) = BitVec.ofNat 32 (order (at1 p) (j.castLE h)).val := by
  unfold Read.best
  refine (shapeCast_apply _ _ (ix2 (0 : Fin 1) j) (ix1 j) ?_).trans (topK_apply count_le h p sliceFits_S32768_S64 j)
  exact (Nat.zero_add _).symm

/-- The reference returns the positions of the 64 greatest weights. -/
theorem result_apply (x : Vec Ideal S32768 .f32) (hx : ∀ t, at1 x t < ⊤) {K : ℕ} (hKn : K ≤ 32768)
    (hK : ∀ k, InSupport (sorted (at1 x)) k ↔ k < K) (j : Fin 64) (h : 64 ≤ 32768) :
    Read.result (F := Ideal) x (ix2 (0 : Fin 1) j) = BitVec.ofNat 32 (order (weight (at1 x) K) (j.castLE h)).val := by
  unfold Read.result
  rw [best_apply _ _ h, scaled_eq]
  have hz := sorted_antitone count_le (at1 x)
  have ht := sorted_lt_top (at1 x) hx
  have hr := running_apply (Read.sortedDown (F := Ideal) x) (sorted (at1 x)) (sortedDown_apply x)
  have hs := support_eq (Read.sortedDown (F := Ideal) x) _ (sorted (at1 x)) (sortedDown_apply x) hr hKn hK
  have hc := threshold_eq _ _ (sorted (at1 x)) hz ht hr hKn hK hs
  have e : at1 (Read.probs (F := Ideal) x (Read.threshold (Read.running (Read.sortedDown x))
      (Read.support (Read.sortedDown x) (Read.running (Read.sortedDown x))))) = weight (at1 x) K :=
    funext fun t => probs_apply x _ (cut (sorted (at1 x)) K) hc t
  rw [e]

end Cert.Sparse
-- ==== Proof.Run.lean ====
/-
  Both runs, end to end.  The kernel's one block is the whole array, so what the body writes is the result, and what it reads
  is the argument laid out in rows; under the precondition the two results agree place by place.
-/
module

public import proofs.«01_k».proof.Defs
public import proofs.«01_k».proof.Proof.Phase4
public import proofs.«01_k».proof.Proof.Reference
public import proofs.«01_k».proof.Proof.Gen.KernelIdeal.Value

@[expose] public section

noncomputable section

namespace Cert.Sparse

open Idealize.ShloMosaic Idealize.ShloMosaic.TcCoe Idealize.ShloMosaic.Pointwise Idealize.SL.Sem

section kernel

open Cert.KernelIdeal Cert.KernelIdeal.Gen

variable (m : (ℓ : Loc nD τ sig) → Buf (Elt Ideal) ℓ) (c : Dev nD)

/-- The argument. -/
abbrev arg : Vec Ideal Cert.ReferenceIdeal.S32768 .f32 := m ((c : Thread nD τ).loc main_arg0)

/-- The result's one block is the whole array. -/
theorem one_block (t : Fin cfg0.N) (G : Vec Ideal S1x64 .i32) (y : S1x64.Idx) :
    ((cfg0.win 1).blk t).view.read (Elt Ideal) G y = G y := by
  rw [View.read_apply]
  refine congrArg G (funext fun a => Fin.ext ?_)
  show 0 * S1x64.size a + 1 * (y a).val = (y a).val
  omega

/-- The input's one block is the whole array. -/
theorem one_input (t : Fin cfg0.N) (G : Vec Ideal S256x128 .f32) (y : S256x128.Idx) :
    ((cfg0.win 0).blk t).view.read (Elt Ideal) G y = G y := by
  rw [View.read_apply]
  refine congrArg G (funext fun a => Fin.ext ?_)
  show 0 * S256x128.size a + 1 * (y a).val = (y a).val
  omega

/-- The region finds the argument laid out in rows. -/
theorem entry_eq : V m c main_v0 = shapeCast S256x128 (arg m c) shapeCasts_S32768_S256x128 := by
  show StableHlo.after hostOps0 (fun b => m (c, b)) (Proc.devRef .tc main_v0) = _
  rw [StableHlo.after_cons, StableHlo.after_nil]
  exact StableHlo.reshape_result ..

/-- The entries the body reads are the argument's. -/
theorem flat_eq (t : Fin cfg0.N) : flat (iblk m c 0 t) = at1 (arg m c) := by
  funext k
  have h := k.isLt
  unfold flat at1 iblk
  refine (one_input t (V m c main_v0) _).trans ?_
  rw [entry_eq]
  refine shapeCast_apply (arg m c) shapeCasts_S32768_S256x128 _ _ ?_
  rw [Shape.rowMajor_val_one, Shape.rowMajor_val_two]
  show k.val = k.val / 128 * 128 + k.val % 128
  omega

/-- Place `j` of the kernel's result. -/
theorem kernel_result (hx : ∀ t, at1 (arg m c) t < ⊤) {K : ℕ} (hK : ∀ k, InSupport (sorted (at1 (arg m c))) k ↔ k < K) (j : Fin 64) :
    ((dats m 0 c).arrAt 1 cfg0.N : Vec Ideal S1x64 .i32) (ix2 (0 : Fin 1) j)
      = BitVec.ofNat 32 (order (weight (at1 (arg m c)) K) (j.castLE first64)).val := by
  have t : Fin cfg0.N := ⟨0, by decide⟩
  refine (one_block t _ _).symm.trans ?_
  have h := (Value.blocks1 m c t (by fin_cases t; rfl)).trans (Value.flushed1_A m c t)
  refine (congrFun h (ix2 (0 : Fin 1) j)).trans ?_
  have e := kernel_apply c (ms0_0 t) (hs0_0 t) (ms0_1 t) (hs0_1 t) scM0_0 (Memref.isWhole_whole _) scM0_1 (Memref.isWhole_whole _)
    (iblk m c 0 t) (by rw [flat_eq]; exact hx) (K := K) (by rw [flat_eq]; exact hK) j
  rw [flat_eq] at e
  exact e

end kernel

/-- The precondition's side condition. -/
theorem pre_facts : Cert.Pre_no_inf.Facts := ⟨Cert.ReferenceIdeal.Gen.facts.bcast_S_S32768⟩

attribute [local instance] pre_facts

/-- The precondition says that no entry is `+∞`. -/
theorem below_top (m : (ℓ : Loc Cert.KernelIdeal.nD Cert.KernelIdeal.τ Cert.KernelIdeal.sig) → Buf (Elt Ideal) ℓ)
    (h : Pre_KernelIdeal_no_inf m) (c : Dev Cert.KernelIdeal.nD) (t : Fin 32768) : at1 (arg m c) t < ⊤ := by
  have e : BitVec.ofBool (decide (at1 (arg m c) t < Ideal.ofBits .f32 0x7F800000#32)) = 1#1 := congrFun (h c) (ix1 t)
  have htop : Ideal.ofBits .f32 0x7F800000#32 = ⊤ := by
    simp [Ideal.ofBits, Ideal.ieee]
  rw [htop] at e
  by_contra hc
  rw [decide_eq_false hc] at e
  exact absurd e (by decide)

/-- The two programs end with the same result. -/
theorem algebraic : algebraic_KernelIdeal_ReferenceIdeal_pre_no_inf := by
  intro m g m' g' hpre harg
  refine ⟨fun c => (Cert.KernelIdeal.Gen.dats m 0 c).arrAt 1 Cert.KernelIdeal.cfg0.N, Cert.KernelIdeal.Value.run_blocks m g,
    (θ_run _ _ _).mono (fun r h c => ⟨?_, (h c).2⟩) (Cert.ReferenceIdeal.Read.run (F := Ideal) m' g')⟩
  refine (h c).1.trans ?_
  rw [harg c]
  have hx := below_top m hpre c
  obtain ⟨K, hKn, hK⟩ := exists_length (sorted_antitone positions_le (at1 (arg m c))) (sorted_lt_top (at1 (arg m c)) hx) 32768
    (sorted_end _)
  funext i
  obtain ⟨j, rfl⟩ : ∃ j : Fin 64, i = ix2 (0 : Fin 1) j := ⟨i 1, by
    rw [eq_ix2 (n0 := 1) (n1 := 64) i]
    exact congrArg (fun u : Fin 1 => ix2 u (i 1)) (Subsingleton.elim _ _)⟩
  exact (result_apply (arg m c) hx hKn hK j first64).trans (kernel_result m c hx hK j).symm

end Cert.Sparse
-- ==== Proof.lean ====
/- The certificate: the frames of the kernel, of its ideal form and of the reference, that the ideal form preserves the kernel,
   and that for scores none of which is `+∞` the ideal form and the reference return the same positions. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference terminates with its argument unchanged and, declaring no semaphore, with every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Read.run (F := Ideal) m ρ)

/-- All the claims. -/
theorem claim : Cert.Claim :=
  ⟨Cert.Kernel.Gen.facts, Cert.KernelIdeal.Gen.facts, Cert.ReferenceIdeal.Gen.facts, Cert.Sparse.pre_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Sparse.algebraic⟩

end Cert.Proof

end
